-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def preserves_Kernel_KernelIdeal : Prop :=
  True

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v47_0) = v0 c
          ∧ r.2.mem ((c.tc : Thread Cert.RefIdeal.nD Cert.RefIdeal.τ).loc Cert.RefIdeal.main_v47_1) = v1 c
          ∧ r.2.mem ((c.tc : Thread Cert.RefIdeal.nD Cert.RefIdeal.τ).loc Cert.RefIdeal.main_v33) = v2 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3))

def Claim : Prop :=
  ∃ (hKernel : Cert.Kernel.Facts) (hKernelIdeal : Cert.KernelIdeal.Facts) (hRefIdeal : Cert.RefIdeal.Facts),
    quiescent_Kernel (hKernel := hKernel)
    ∧ quiescent_KernelIdeal (hKernelIdeal := hKernelIdeal)
    ∧ quiescent_RefIdeal (hRefIdeal := hRefIdeal)
    ∧ preserves_Kernel_KernelIdeal
    ∧ algebraic_KernelIdeal_RefIdeal (hKernelIdeal := hKernelIdeal) (hRefIdeal := hRefIdeal)
-- ==== Kernel.lean ====
abbrev S3x8192x3584 : Shape := ⟨3, ![3, 8192, 3584]⟩
abbrev S_ : Shape := ⟨0, ![]⟩
abbrev S3584x3584 : Shape := ⟨2, ![3584, 3584]⟩
abbrev S24576x3584 : Shape := ⟨2, ![24576, 3584]⟩
abbrev S8x128 : Shape := ⟨2, ![8, 128]⟩
abbrev S1024x3584 : Shape := ⟨2, ![1024, 3584]⟩
abbrev S16x3584 : Shape := ⟨2, ![16, 3584]⟩
abbrev S64x16x3584 : Shape := ⟨3, ![64, 16, 3584]⟩
abbrev S1x16x3584 : Shape := ⟨3, ![1, 16, 3584]⟩
abbrev S1 : Shape := ⟨1, ![1]⟩
abbrev S1x1x1 : Shape := ⟨3, ![1, 1, 1]⟩
abbrev S1x1 : Shape := ⟨2, ![1, 1]⟩
abbrev S23 : Shape := ⟨1, ![23]⟩
abbrev S254 : Shape := ⟨1, ![254]⟩
abbrev S277 : Shape := ⟨1, ![277]⟩
abbrev S2 : Shape := ⟨1, ![2]⟩
abbrev S1024x1792 : Shape := ⟨2, ![1024, 1792]⟩
abbrev S1792x1792 : Shape := ⟨2, ![1792, 1792]⟩

abbrev nBuf : Space → Nat
  | .hbm => 80
  | .vmem => 13
  | .smem => 1
  | _ => 0

abbrev bufTy : (tb : Table) → Fin (tcTables nBuf tb) → BufTy
  | .hbm, ⟨0, _⟩ => ⟨S3x8192x3584, .fp8e4m3⟩
  | .hbm, ⟨1, _⟩ => ⟨S_, .f32⟩
  | .hbm, ⟨2, _⟩ => ⟨S3x8192x3584, .bf16⟩
  | .hbm, ⟨3, _⟩ => ⟨S3584x3584, .f32⟩
  | .hbm, ⟨4, _⟩ => ⟨S24576x3584, .fp8e4m3⟩
  | .hbm, ⟨5, _⟩ => ⟨S24576x3584, .bf16⟩
  | .hbm, ⟨6, _⟩ => ⟨S8x128, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S23, .i32⟩
  | .hbm, ⟨12, _⟩ => ⟨S_, .i32⟩
  | .hbm, ⟨13, _⟩ => ⟨S23, .i32⟩
  | .hbm, ⟨14, _⟩ => ⟨S23, .i32⟩
  | .hbm, ⟨15, _⟩ => ⟨S254, .i32⟩
  | .hbm, ⟨16, _⟩ => ⟨S_, .i32⟩
  | .hbm, ⟨17, _⟩ => ⟨S254, .i32⟩
  | .hbm, ⟨18, _⟩ => ⟨S254, .i32⟩
  | .hbm, ⟨19, _⟩ => ⟨S_, .i32⟩
  | .hbm, ⟨20, _⟩ => ⟨S254, .i32⟩
  | .hbm, ⟨21, _⟩ => ⟨S254, .i32⟩
  | .hbm, ⟨22, _⟩ => ⟨S277, .i32⟩
  | .hbm, ⟨23, _⟩ => ⟨S277, .f32⟩
  | .hbm, ⟨24, _⟩ => ⟨S277, .f32⟩
  | .hbm, ⟨25, _⟩ => ⟨S277, .i1⟩
  | .hbm, ⟨26, _⟩ => ⟨S277, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .i1⟩
  | .hbm, ⟨33, _⟩ => ⟨S_, .i1⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S2, .f32⟩
  | .hbm, ⟨77, _⟩ => ⟨S3584x3584, .f32⟩
  | .hbm, ⟨78, _⟩ => ⟨S24576x3584, .fp8e5m2⟩
  | .hbm, ⟨79, _⟩ => ⟨S3x8192x3584, .fp8e5m2⟩
  | .local _ .vmem, ⟨0, _⟩ => ⟨S1024x3584, .bf16⟩
  | .local _ .vmem, ⟨1, _⟩ => ⟨S1024x3584, .bf16⟩
  | .local _ .vmem, ⟨2, _⟩ => ⟨S8x128, .f32⟩
  | .local _ .vmem, ⟨3, _⟩ => ⟨S16x3584, .bf16⟩
  | .local _ .vmem, ⟨4, _⟩ => ⟨S1024x1792, .fp8e4m3⟩
  | .local _ .vmem, ⟨5, _⟩ => ⟨S1024x1792, .fp8e4m3⟩
  | .local _ .vmem, ⟨6, _⟩ => ⟨S1024x1792, .bf16⟩
  | .local _ .vmem, ⟨7, _⟩ => ⟨S1024x1792, .bf16⟩
  | .local _ .vmem, ⟨8, _⟩ => ⟨S1792x1792, .f32⟩
  | .local _ .vmem, ⟨9, _⟩ => ⟨S1792x1792, .f32⟩
  | .local _ .vmem, ⟨10, _⟩ => ⟨S1024x1792, .fp8e5m2⟩
  | .local _ .vmem, ⟨11, _⟩ => ⟨S1024x1792, .fp8e5m2⟩
  | .local _ .vmem, ⟨12, _⟩ => ⟨S1792x1792, .f32⟩
  | .local _ .smem, ⟨0, _⟩ => ⟨S2, .f32⟩
  | _, _ => ⟨S3x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_c_6 : Ref sig .tc := ⟨.hbm, 37, rfl⟩
abbrev main_call0_v0 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_c_8 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_c_11 : Ref sig .tc := ⟨.hbm, 48, rfl⟩
abbrev main_v30 : Ref sig .tc := ⟨.hbm, 49, rfl⟩
abbrev main_c_12 : Ref sig .tc := ⟨.hbm, 50, rfl⟩
abbrev main_v31 : Ref sig .tc := ⟨.hbm, 51, rfl⟩
abbrev main_c_13 : Ref sig .tc := ⟨.hbm, 52, rfl⟩
abbrev main_v32 : Ref sig .tc := ⟨.hbm, 53, rfl⟩
abbrev main_c_14 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_15 : Ref sig .tc := ⟨.hbm, 59, rfl⟩
abbrev main_v37 : Ref sig .tc := ⟨.hbm, 60, rfl⟩
abbrev main_c_16 : Ref sig .tc := ⟨.hbm, 61, rfl⟩
abbrev main_v38 : Ref sig .tc := ⟨.hbm, 62, rfl⟩
abbrev main_c_17 : Ref sig .tc := ⟨.hbm, 63, rfl⟩
abbrev main_v39 : Ref sig .tc := ⟨.hbm, 64, rfl⟩
abbrev main_c_18 : Ref sig .tc := ⟨.hbm, 65, rfl⟩
abbrev main_v40 : Ref sig .tc := ⟨.hbm, 66, rfl⟩
abbrev main_c_19 : Ref sig .tc := ⟨.hbm, 67, rfl⟩
abbrev main_v41 : Ref sig .tc := ⟨.hbm, 68, rfl⟩
abbrev main_c_20 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49_0 : Ref sig .tc := ⟨.hbm, 77, rfl⟩
abbrev main_v49_1 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![24], ![false]⟩

def k0_cond3 (i : grid0.Coords) : BitVec 1 :=
  let arg0 : BitVec 32 := BitVec.ofNat 32 (i 0).val
  let c23_i32 : BitVec 32 := 23#32
  let v11 : BitVec 1 := Scalar.cmpi .eq arg0 c23_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![2, 2, 24], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg0 : BitVec 32 := BitVec.ofNat 32 (i 0).val
  let c1792_i32 : BitVec 32 := 1792#32
  let v27 : BitVec 32 := Scalar.muli arg0 c1792_i32
  let arg1 : BitVec 32 := BitVec.ofNat 32 (i 1).val
  let c1792_i32_14 : BitVec 32 := 1792#32
  let v28 : BitVec 32 := Scalar.muli arg1 c1792_i32_14
  ![v27.toNat, v28.toNat]
def k1_cond3 (i : grid1.Coords) : BitVec 1 :=
  let arg2 : BitVec 32 := BitVec.ofNat 32 (i 2).val
  let c23_i32 : BitVec 32 := 23#32
  let v24 : BitVec 1 := Scalar.cmpi .eq arg2 c23_i32
  let v25 : BitVec 32 := Scalar.extui v24
  let c0_i32_13 : BitVec 32 := 0#32
  let v26 : BitVec 1 := Scalar.cmpi .ne v25 c0_i32_13
  v26

def k1_off2 (i : grid1.Coords) : Fin 2 → Nat :=
  let arg0 : BitVec 32 := BitVec.ofNat 32 (i 0).val
  let c1792_i32 : BitVec 32 := 1792#32
  let v27 : BitVec 32 := Scalar.muli arg0 c1792_i32
  let arg1 : BitVec 32 := BitVec.ofNat 32 (i 1).val
  let c1792_i32_14 : BitVec 32 := 1792#32
  let v28 : BitVec 32 := Scalar.muli arg1 c1792_i32_14
  ![v27.toNat, v28.toNat]
def k1_cond2 (i : grid1.Coords) : BitVec 1 :=
  let arg0 : BitVec 32 := BitVec.ofNat 32 (i 0).val
  let c0_i32_4 : BitVec 32 := 0#32
  let v14 : BitVec 1 := Scalar.cmpi .eq arg0 c0_i32_4
  let v15 : BitVec 32 := Scalar.extui v14
  let c0_i32_5 : BitVec 32 := 0#32
  let v16 : BitVec 1 := Scalar.cmpi .ne v15 c0_i32_5
  v16

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c23_i32 : BitVec 32 := 23#32
  let v1 : BitVec 32 := Scalar.select v0 arg2 c23_i32
  let c1_i32 : BitVec 32 := 1#32
  let v2 : BitVec 32 := Scalar.select v0 arg1 c1_i32
  let c0_i32_0 : BitVec 32 := 0#32
  ![v1.toNat, v2.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1024x1792 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1792x1792 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1792 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== RefIdeal.lean ====
abbrev S3x8192x3584 : Shape := ⟨3, ![3, 8192, 3584]⟩
abbrev S_ : Shape := ⟨0, ![]⟩
abbrev S3584x3584 : Shape := ⟨2, ![3584, 3584]⟩
abbrev S23 : Shape := ⟨1, ![23]⟩
abbrev S254 : Shape := ⟨1, ![254]⟩
abbrev S277 : Shape := ⟨1, ![277]⟩
abbrev S1 : Shape := ⟨1, ![1]⟩
abbrev S2 : Shape := ⟨1, ![2]⟩
abbrev S24576x3584 : Shape := ⟨2, ![24576, 3584]⟩

abbrev nBuf : Space → Nat
  | .hbm => 78
  | .vmem => 5
  | .smem => 1
  | _ => 0

abbrev bufTy : (tb : Table) → Fin (tcTables nBuf tb) → BufTy
  | .hbm, ⟨0, _⟩ => ⟨S3x8192x3584, .fp8e4m3⟩
  | .hbm, ⟨1, _⟩ => ⟨S_, .f32⟩
  | .hbm, ⟨2, _⟩ => ⟨S3x8192x3584, .bf16⟩
  | .hbm, ⟨3, _⟩ => ⟨S3584x3584, .f32⟩
  | .hbm, ⟨4, _⟩ => ⟨S3x8192x3584, .f32⟩
  | .hbm, ⟨5, _⟩ => ⟨S3x8192x3584, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S23, .i32⟩
  | .hbm, ⟨11, _⟩ => ⟨S_, .i32⟩
  | .hbm, ⟨12, _⟩ => ⟨S23, .i32⟩
  | .hbm, ⟨13, _⟩ => ⟨S23, .i32⟩
  | .hbm, ⟨14, _⟩ => ⟨S254, .i32⟩
  | .hbm, ⟨15, _⟩ => ⟨S_, .i32⟩
  | .hbm, ⟨16, _⟩ => ⟨S254, .i32⟩
  | .hbm, ⟨17, _⟩ => ⟨S254, .i32⟩
  | .hbm, ⟨18, _⟩ => ⟨S_, .i32⟩
  | .hbm, ⟨19, _⟩ => ⟨S254, .i32⟩
  | .hbm, ⟨20, _⟩ => ⟨S254, .i32⟩
  | .hbm, ⟨21, _⟩ => ⟨S277, .i32⟩
  | .hbm, ⟨22, _⟩ => ⟨S277, .f32⟩
  | .hbm, ⟨23, _⟩ => ⟨S277, .f32⟩
  | .hbm, ⟨24, _⟩ => ⟨S277, .i1⟩
  | .hbm, ⟨25, _⟩ => ⟨S277, .i32⟩
  | .hbm, ⟨26, _⟩ => ⟨S_, .i32⟩
  | .hbm, ⟨27, _⟩ => ⟨S_, .i32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S2, .f32⟩
  | .hbm, ⟨76, _⟩ => ⟨S3584x3584, .f32⟩
  | .hbm, ⟨77, _⟩ => ⟨S3x8192x3584, .fp8e5m2⟩
  | .local _ .vmem, ⟨0, _⟩ => ⟨S3x8192x3584, .fp8e4m3⟩
  | .local _ .vmem, ⟨1, _⟩ => ⟨S3x8192x3584, .bf16⟩
  | .local _ .vmem, ⟨2, _⟩ => ⟨S3584x3584, .f32⟩
  | .local _ .vmem, ⟨3, _⟩ => ⟨S3584x3584, .f32⟩
  | .local _ .vmem, ⟨4, _⟩ => ⟨S3x8192x3584, .fp8e5m2⟩
  | .local _ .smem, ⟨0, _⟩ => ⟨S2, .f32⟩
  | _, _ => ⟨S3x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_c_7 : Ref sig .tc := ⟨.hbm, 36, rfl⟩
abbrev main_call0_v0 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_c_9 : Ref sig .tc := ⟨.hbm, 41, rfl⟩
abbrev main_v25 : Ref sig .tc := ⟨.hbm, 42, rfl⟩
abbrev main_c_10 : Ref sig .tc := ⟨.hbm, 43, rfl⟩
abbrev main_v26 : Ref sig .tc := ⟨.hbm, 44, rfl⟩
abbrev main_c_11 : Ref sig .tc := ⟨.hbm, 45, rfl⟩
abbrev main_v27 : Ref sig .tc := ⟨.hbm, 46, rfl⟩
abbrev main_c_12 : Ref sig .tc := ⟨.hbm, 47, rfl⟩
abbrev main_v28 : Ref sig .tc := ⟨.hbm, 48, rfl⟩
abbrev main_c_13 : Ref sig .tc := ⟨.hbm, 49, rfl⟩
abbrev main_v29 : Ref sig .tc := ⟨.hbm, 50, rfl⟩
abbrev main_c_14 : Ref sig .tc := ⟨.hbm, 51, rfl⟩
abbrev main_v30 : Ref sig .tc := ⟨.hbm, 52, rfl⟩
abbrev main_c_15 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_16 : Ref sig .tc := ⟨.hbm, 58, rfl⟩
abbrev main_v35 : Ref sig .tc := ⟨.hbm, 59, rfl⟩
abbrev main_c_17 : Ref sig .tc := ⟨.hbm, 60, rfl⟩
abbrev main_v36 : Ref sig .tc := ⟨.hbm, 61, rfl⟩
abbrev main_c_18 : Ref sig .tc := ⟨.hbm, 62, rfl⟩
abbrev main_v37 : Ref sig .tc := ⟨.hbm, 63, rfl⟩
abbrev main_c_19 : Ref sig .tc := ⟨.hbm, 64, rfl⟩
abbrev main_v38 : Ref sig .tc := ⟨.hbm, 65, rfl⟩
abbrev main_c_20 : Ref sig .tc := ⟨.hbm, 66, rfl⟩
abbrev main_v39 : Ref sig .tc := ⟨.hbm, 67, rfl⟩
abbrev main_c_21 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47_0 : Ref sig .tc := ⟨.hbm, 76, rfl⟩
abbrev main_v47_1 : Ref sig .tc := ⟨.hbm, 77, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8192x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8192x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8192x3584 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.AmaxBodyIdeal.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Tactic
public import Idealize.ShloMosaic.Lib.Pipeline.FrameBody
public import Idealize.ShloMosaic.Lib.VecWindow

/-! # The body of the column-maximum call, case by case

One triple per case of the grid point: the first point stores the block's column maximum into the scratch, a later
point takes the maximum with what the scratch holds, and the last point also reduces the scratch to one number and
broadcasts it into the output block. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own transfers ride on. -/
abbrev UU (nD : Nat) (τ : Topo) : Type := UR sig nD τ × Counters

local notation "𝕄" => MT nD τ sig Unit (Elt F) ℕ (UU nD τ) ℕ

/-- The first condition of the body: the point is the first. -/
abbrev cond0_1 (i : grid0.Coords) : Prop :=
  Scalar.cmpi .ne (Scalar.extui (Scalar.cmpi .eq (BitVec.ofNat 32 (i 0).val) 0#32) : BitVec 32) 0#32 = 1#1

/-- The second condition of the body: the point is not the first. -/
abbrev cond0_2 (i : grid0.Coords) : Prop :=
  Scalar.cmpi .ne (Scalar.extui (Scalar.cmpi .sgt (BitVec.ofNat 32 (i 0).val) 0#32) : BitVec 32) 0#32 = 1#1

set_option maxHeartbeats 1000000 in
/-- The first point: the scratch is left at the block's column maximum. -/
theorem amax_first (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S16x3584 .bf16)
    (harg3 : arg3.IsWhole) (hc0 : cond0_1 i) (hc1 : ¬cond0_2 i) (hc2 : ¬k0_cond3 i = 1#1)
    (x0 : Vec F S1024x3584 .bf16) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0)) -∗ K ⟨⟩))
      ⊢ wp frame (wpE (defs₀ (F := F)) Variants.none c none) E (cc0__amax_kernel i arg1 harg1 arg2 harg2 arg3 harg3) K := by
  simp only [cc0__amax_kernel_eq_skeleton]; unfold cc0__amax_kernel_skel
  unfold owns
  iintro ⟨⟨%f0, %hf0, H0⟩, ⟨%d1, %f1, -, HS0⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  iexists _; isplitr; swap; · iexact HS0
  ipureintro
  rw [View.read_writes_full, View.readAt_full, harg1.read_unread]

set_option maxHeartbeats 1000000 in
/-- A point between: the scratch takes the maximum with the block's column maximum. -/
theorem amax_mid (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S16x3584 .bf16)
    (harg3 : arg3.IsWhole) (hc0 : ¬cond0_1 i) (hc1 : cond0_2 i) (hc2 : ¬k0_cond3 i = 1#1)
    (x0 : Vec F S1024x3584 .bf16) (s : Vec F S16x3584 .bf16) (E : Set ℕ) (K : PUnit → sProp 𝕄) :
    iprop(owns (c : Thread nD τ) arg1 fullShare x0 ∗ owns (c : Thread nD τ) arg3 fullShare s
        ∗ (iprop(owns (c : Thread nD τ) arg1 fullShare x0 ∗ owns (c : Thread nD τ) arg3 fullShare (k0_pay3 x0 s)) -∗ K ⟨⟩))
      ⊢ wp frame (wpE (defs₀ (F := F)) Variants.none c none) E (cc0__amax_kernel i arg1 harg1 arg2 harg2 arg3 harg3) K := by
  simp only [cc0__amax_kernel_eq_skeleton]; unfold cc0__amax_kernel_skel
  unfold owns
  iintro ⟨⟨%f0, %hf0, H0⟩, ⟨%f1, %hf1, HS0⟩, Hk⟩
  obtain rfl := harg1.eq_unread hf0; obtain rfl := harg3.eq_unread hf1
  sl_exec (disch := first | sl_exact hc0 | sl_exact hc1 | sl_exact hc2)
  sl_step
  iapply Hk
  isplitl [H0]
  · iexists _; isplitr; · ipureintro; exact harg1.read_unread _
    iexact H0
  iexists _; isplitr; swap; · iexact HS0
  ipureintro
  rw [View.read_writes_full, View.readAt_full, View.readAt_full, harg1.read_unread, harg3.read_unread]

set_option maxHeartbeats 1000000 in
/-- The last point: as between, and the output block is left at the maximum of the scratch. -/
theorem amax_last (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S16x3584 .bf16)
    (harg3 : arg3.IsWhole) (hc0 : ¬cond0_1 i) (hc1 : cond0_2 i) (hc2 : k0_cond3 i = 1#1)
    (x0 : Vec F S1024x3584 .bf16) (s : Vec F S16x3584 .bf16) (E : Set ℕ) (K : PUnit → sProp 𝕄) :
    iprop(owns (c : Thread nD τ) arg1 fullShare x0 ∗ (∃ d, owns (c : Thread nD τ) arg2 fullShare d)
        ∗ owns (c : Thread nD τ) arg3 fullShare s
        ∗ (iprop(owns (c : Thread nD τ) arg1 fullShare x0 ∗ owns (c : Thread nD τ) arg2 fullShare (k0_pay4 (k0_pay3 x0 s))
            ∗ owns (c : Thread nD τ) arg3 fullShare (k0_pay3 x0 s)) -∗ K ⟨⟩))
      ⊢ wp frame (wpE (defs₀ (F := F)) Variants.none c none) E (cc0__amax_kernel i arg1 harg1 arg2 harg2 arg3 harg3) K := by
  simp only [cc0__amax_kernel_eq_skeleton]; unfold cc0__amax_kernel_skel
  unfold owns
  iintro ⟨⟨%f0, %hf0, H0⟩, ⟨%d1, %f1, -, H1⟩, ⟨%f2, %hf2, HS0⟩, Hk⟩
  obtain rfl := harg1.eq_unread hf0; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; swap; · iexact H1
    ipureintro
    sl_unfold_words
    rw [View.read_writes_full, View.readCov_full, View.readAt_full, View.readAt_full, harg1.read_unread, harg3.read_unread]
  iexists _; isplitr; swap; · iexact HS0
  ipureintro
  sl_unfold_words
  rw [View.read_writes_full, View.readAt_full, View.readAt_full, harg1.read_unread, harg3.read_unread]

end Cert.KernelIdeal.Hand

end
-- ==== Proof.DwBodyIdeal.lean ====
module

public import proofs.«01_k».proof.Proof.AmaxBodyIdeal
public import Idealize.ShloMosaic.Lib.Affine
public import Idealize.ShloMosaic.Lib.Ring

/-! # The body of the weight-gradient call, case by case

At the first of the 24 row blocks of a tile the body sends the tile's old values to its own buffer and zeroes the
accumulator; every block adds its product to the accumulator (and, for the first tile row, stores the block's codes);
at the last block the body waits for the old values and writes old plus factor times accumulator. One triple per
case. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The old weight gradient, where it lies. -/
abbrev dwM : Memref sig .tc .hbm S3584x3584 .f32 := Memref.whole main_arg3
/-- The buffer one tile of it is brought to. -/
abbrev bufM : Memref sig .tc .vmem S1792x1792 .f32 := Memref.whole cc1_scratch0

abbrev tileOff (p q : Fin 2) : Fin 2 → Nat := ![1792 * p.val, 1792 * q.val]
theorem tileOff_inb (p q : Fin 2) : ∀ a, tileOff p q a + S1792x1792.size a ≤ S3584x3584.size a := by
  revert p q; decide
/-- Tile `(p, q)` of the old weight gradient. -/
def tile (p q : Fin 2) : Memref sig .tc .hbm S1792x1792 .f32 :=
  dwM.slice (Rect.unit (s := S3584x3584) (tileOff p q) S1792x1792.size (tileOff_inb p q)) (fun _ => rfl)

instance (p q : Fin 2) : ClosedOff (tileOff p q) := ⟨tileOff p q, rfl⟩

@[sl_canon] theorem tile_off1 (i : grid1.Coords) (hh hs) :
    dwM.slice (Rect.unit (s := S3584x3584) (k1_off1 i) S1792x1792.size hh) hs = tile (i 0) (i 1) :=
  Memref.slice_unit_congr _ (k1_off1_eq i) _ _ _ (fun _ => rfl)
@[sl_canon] theorem tile_off2 (i : grid1.Coords) (hh hs) :
    dwM.slice (Rect.unit (s := S3584x3584) (k1_off2 i) S1792x1792.size hh) hs = tile (i 0) (i 1) :=
  Memref.slice_unit_congr _ (k1_off2_eq i) _ _ _ (fun _ => rfl)

/-- The first of the two factors: the one the codes are scaled by. -/
abbrev fac0 (x : Vec F S2 .f32) : Elt F .f32 :=
  View.ld x (Rect.unit (s := S2) ![0] S1.size inb_S2_S1_0) (Shape.Idx.first (by decide))
/-- The second of the two factors: the one the product is scaled by. -/
abbrev fac1 (x : Vec F S2 .f32) : Elt F .f32 :=
  View.ld x (Rect.unit (s := S2) ![1] S1.size inb_S2_S1_1) (Shape.Idx.first (by decide))

/-- A load of the whole buffer after the tile has landed reads the tile. -/
theorem load_landed (w : S1792x1792.Idx → Elt F .f32) :
    bufM.view.readCov [(⟨Rect.whole S1792x1792, w⟩ : View.Piece (Elt F) S1792x1792 .f32)]
      (Rect.unit (s := S1792x1792) ![0, 0] S1792x1792.size inb_S1792x1792_S1792x1792_0_0).toLoadRect = w := by
  unfold View.readCov
  rw [View.readAt_full, View.read_writes_whole]

section Pieces
variable (c : Dev nD) (XA : Buf (Elt F) (dwM.view.loc (c : Thread nD τ)))

/-- The transfer's semaphore at zero. -/
abbrev cellP : sProp 𝕄 := semVal ((c : Thread nD τ), SemLoc.dma cc1_scratch1.sem) 0
/-- The buffer at contents `f`. -/
abbrev bufP (f : Buf (Elt F) (bufM.view.loc (c : Thread nD τ))) : sProp 𝕄 :=
  bufM.view.loc (c : Thread nD τ) ↦[bufM.view.set]{fullShare} f
/-- One tile of the old weight gradient. -/
abbrev tileP (p q : Fin 2) : sProp 𝕄 := (tile p q).view.loc (c : Thread nD τ) ↦[(tile p q).view.set]{fullShare} XA
/-- The buffer after the tile has landed. -/
abbrev landed (p q : Fin 2) (f : Buf (Elt F) (bufM.view.loc (c : Thread nD τ))) : Buf (Elt F) (bufM.view.loc (c : Thread nD τ)) :=
  bufM.view.writes (Elt F) f [⟨Rect.whole S1792x1792, ReadAs.same.apply ((tile p q).view.read (Elt F) XA)⟩]
/-- The tile on its way into the buffer. -/
abbrev flightP (p q : Fin 2) (f : Buf (Elt F) (bufM.view.loc (c : Thread nD τ))) : sProp 𝕄 :=
  Transfers.Flight countersEmb (c : Thread nD τ) (SemLoc.dma cc1_scratch1.sem) () 401408 iprop(bufP c (landed c XA p q f) ∗ tileP c XA p q)

end Pieces

set_option maxHeartbeats 2000000 in
/-- The first row block of a tile, no codes stored. -/
theorem dw_first (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : k1_cond1 i = 1#1) (hc2 : ¬k1_cond2 i = 1#1) (hc3 : ¬k1_cond3 i = 1#1)
    (x3 : Vec F S2 .f32) (x4 : Vec F S1024x1792 .fp8e4m3) (x5 : Vec F S1024x1792 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg7 fullShare d)
        ∗ tileP c XA (i 0) (i 1) ∗ (∃ f, bufP c f) ∗ cellP c ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) (k1_pay1 (F := F)) x4)
            ∗ (∃ f, flightP c XA (i 0) (i 1) f) ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%d7, %f7, -, H7⟩, HT, ⟨%fb, HB⟩, HC, ⟨%W, HW⟩, Hk⟩
  obtain rfl := harg3.eq_unread hf3; obtain rfl := harg4.eq_unread hf4; obtain rfl := harg5.eq_unread hf5
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, View.readCov_full, View.readAt_full, View.readAt_full, harg4.read_unread, harg5.read_unread,
      View.readAt_eq_ld, harg3.read_unread]
  isplitl [HC]
  · iexists _; iexact HC
  iexists _; iexact HW

set_option maxHeartbeats 2000000 in
/-- The first row block of a tile, codes stored. -/
theorem dw_first_codes (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : k1_cond1 i = 1#1) (hc2 : k1_cond2 i = 1#1) (hc3 : ¬k1_cond3 i = 1#1)
    (x3 : Vec F S2 .f32) (x4 : Vec F S1024x1792 .fp8e4m3) (x5 : Vec F S1024x1792 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg7 fullShare d) ∗ (∃ d, owns (c : Thread nD τ) arg8 fullShare d)
        ∗ tileP c XA (i 0) (i 1) ∗ (∃ f, bufP c f) ∗ cellP c ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) (k1_pay1 (F := F)) x4) ∗ owns (c : Thread nD τ) arg8 fullShare (k1_pay2 x5 (fac0 x3))
            ∗ (∃ f, flightP c XA (i 0) (i 1) f) ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%d7, %f7, -, H7⟩, ⟨%d8, %f8, -, H8⟩, HT, ⟨%fb, HB⟩, HC, ⟨%W, HW⟩, Hk⟩
  obtain rfl := harg3.eq_unread hf3; obtain rfl := harg4.eq_unread hf4; obtain rfl := harg5.eq_unread hf5
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, View.readCov_full, View.readAt_full, View.readAt_full, harg4.read_unread, harg5.read_unread,
      View.readAt_eq_ld, harg3.read_unread]
  isplitl [H8]
  · iexists _; isplitr; swap; · iexact H8
    ipureintro
    sl_unfold_words
    rw [View.read_writes_full, View.readAt_full, harg5.read_unread, View.readAt_eq_ld, harg3.read_unread]
  isplitl [HC]
  · iexists _; iexact HC
  iexists _; iexact HW

set_option maxHeartbeats 2000000 in
/-- A row block between, no codes stored. -/
theorem dw_mid (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : ¬k1_cond2 i = 1#1) (hc3 : ¬k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) s x4)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H7
  ipureintro
  sl_unfold_words
  rw [View.read_writes_full, View.readAt_full, View.readAt_full, View.readAt_full, harg4.read_unread, harg5.read_unread,
    harg7.read_unread, View.readAt_eq_ld, harg3.read_unread]

set_option maxHeartbeats 2000000 in
/-- A row block between, codes stored. -/
theorem dw_mid_codes (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : k1_cond2 i = 1#1) (hc3 : ¬k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s ∗ (∃ d, owns (c : Thread nD τ) arg8 fullShare d)
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) s x4) ∗ owns (c : Thread nD τ) arg8 fullShare (k1_pay2 x5 (fac0 x3))) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, ⟨%d8, %f8, -, H8⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, View.readAt_full, View.readAt_full, View.readAt_full, harg4.read_unread, harg5.read_unread,
      harg7.read_unread, View.readAt_eq_ld, harg3.read_unread]
  iexists _; isplitr; swap; · iexact H8
  ipureintro
  sl_unfold_words
  rw [View.read_writes_full, View.readAt_full, harg5.read_unread, View.readAt_eq_ld, harg3.read_unread]

set_option maxHeartbeats 2000000 in
/-- The last row block of a tile, no codes stored. -/
theorem dw_last (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : ¬k1_cond2 i = 1#1) (hc3 : k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s
        ∗ (∃ f, flightP c XA (i 0) (i 1) f) ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay4 ((tile (i 0) (i 1)).view.read (Elt F) XA) (k1_pay3 x5 (fac0 x3) s x4) (fac1 x3))
            ∗ tileP c XA (i 0) (i 1) ∗ (∃ f, bufP c f) ∗ cellP c ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, ⟨%fb, HC⟩, ⟨%W, HW⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, load_landed, View.readCov_full, View.readAt_full, View.readAt_full, View.readAt_full, harg4.read_unread, harg5.read_unread,
      harg7.read_unread, View.readAt_eq_ld, View.readAt_eq_ld, harg3.read_unread]
  isplitl [HC_src]; · iexact HC_src
  isplitl [HC_dst]; · iexists _; iexact HC_dst
  isplitl [HC]; · iexact HC
  iexists _; iexact HW

set_option maxHeartbeats 2000000 in
/-- The last row block of a tile, codes stored. -/
theorem dw_last_codes (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : k1_cond2 i = 1#1) (hc3 : k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s ∗ (∃ d, owns (c : Thread nD τ) arg8 fullShare d)
        ∗ (∃ f, flightP c XA (i 0) (i 1) f) ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay4 ((tile (i 0) (i 1)).view.read (Elt F) XA) (k1_pay3 x5 (fac0 x3) s x4) (fac1 x3)) ∗ owns (c : Thread nD τ) arg8 fullShare (k1_pay2 x5 (fac0 x3))
            ∗ tileP c XA (i 0) (i 1) ∗ (∃ f, bufP c f) ∗ cellP c ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, ⟨%d8, %f8, -, H8⟩, ⟨%fb, HC⟩, ⟨%W, HW⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, load_landed, View.readCov_full, View.readAt_full, View.readAt_full, View.readAt_full, harg4.read_unread, harg5.read_unread,
      harg7.read_unread, View.readAt_eq_ld, View.readAt_eq_ld, harg3.read_unread]
  isplitl [H8]
  · iexists _; isplitr; swap; · iexact H8
    ipureintro
    sl_unfold_words
    rw [View.read_writes_full, View.readAt_full, harg5.read_unread, View.readAt_eq_ld, harg3.read_unread]
  isplitl [HC_src]; · iexact HC_src
  isplitl [HC_dst]; · iexists _; iexact HC_dst
  isplitl [HC]; · iexact HC
  iexists _; iexact HW

end Cert.KernelIdeal.Hand

end
-- ==== Proof.AmaxRegionIdeal.lean ====
module

public import proofs.«01_k».proof.Proof.DwBodyIdeal
public import Idealize.ShloMosaic.Lib.Pipeline.RegionArraysS
public import Idealize.ShloMosaic.Lib.Pipeline.Frame

/-! # The column-maximum call as a region

What the scratch holds after each of the 24 points (`acc0`), the region's proof data over the buffers' contents at
its entry, and the body's obligation from the three triples. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the scratch holds after point `n`: the column maximum over the blocks so far. -/
def acc0 (c : Dev nD) : (n : ℕ) → n < cfg0.N → Vec F S16x3584 .bf16
  | 0, h => k0_pay2 (iblk0 V c 0 ⟨0, h⟩)
  | n + 1, h => k0_pay3 (iblk0 V c 0 ⟨n + 1, h⟩) (acc0 c n (Nat.lt_of_succ_lt h))

theorem acc0_pos (c : Dev nD) (t : Fin cfg0.N) (hz : t.val ≠ 0) :
    acc0 V c t.val t.isLt = k0_pay3 (iblk0 V c 0 t) (acc0 V c (t.val - 1) (by omega)) := by
  obtain ⟨n, hn⟩ := t
  cases n with
  | zero => exact absurd rfl hz
  | succ n => rfl

/-- The scratch. -/
abbrev scM0 : Memref sig .tc .vmem S16x3584 .bf16 := Memref.whole cc0_scratch0

/-- The core's other scoped buffers, at anything: the other call's. -/
def rest0 (c : Dev nD) : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_stg0_0), ((c : Thread nD τ).loc cc1_stg0_0) ↦{fullShare} f))

/-- The core's scoped buffers: the scratch at anything and the rest. -/
theorem scoped0 (c : Dev nD) :
    (Pipeline.scopedRest (Ix := Unit) (Name := ℕ) (U := UU nD τ) (Lvl := ℕ) (Val := Elt F) spec0 c : sProp 𝕄)
      = iprop((∃ d, owns (c : Thread nD τ) scM0 fullShare d) ∗ rest0 c) := by
  rw [scopedRest0_eq]; unfold rest0; simp only [scM0, owns_whole]; rfl

/-- The invariant before point `n`: the scratch at anything before the first, then at what the point before left. -/
def Phi0 (c : Dev nD) : (n : ℕ) → n ≤ cfg0.N → sProp 𝕄
  | 0, _ => iprop((∃ d, owns (c : Thread nD τ) scM0 fullShare d) ∗ rest0 c ∗ ∃ r, prngReg c r)
  | n + 1, hn => iprop(owns (c : Thread nD τ) scM0 fullShare (acc0 V c n hn) ∗ rest0 c ∗ ∃ r, prngReg c r)

theorem Phi0_zero (c : Dev nD) (n : ℕ) (h : n ≤ cfg0.N) (hz : n = 0) :
    Phi0 V c n h = iprop((∃ d, owns (c : Thread nD τ) scM0 fullShare d) ∗ rest0 c ∗ ∃ r, prngReg c r) := by
  subst hz; rfl

theorem Phi0_pos (c : Dev nD) (n : ℕ) (h : n ≤ cfg0.N) (hz : n ≠ 0) :
    Phi0 V c n h = iprop(owns (c : Thread nD τ) scM0 fullShare (acc0 V c (n - 1) (by omega)) ∗ rest0 c ∗ ∃ r, prngReg c r) := by
  cases n with
  | zero => exact absurd rfl hz
  | succ n => rfl

/-- The region's proof data on core `c`. -/
def dat0 (c : Dev nD) : Dat τ (Elt F) Unit ℕ (UU nD τ) ℕ cfg0 c where
  A w := V c (Proc.devRef .tc (Pipeline.arrRef spec0 w))
  after w t := match w with
    | ⟨0, _⟩ => iblk0 V c 0 t
    | ⟨1, _⟩ => k0_pay4 (acc0 V c t.val t.isLt)
  Φ t := Phi0 V c t.val (Nat.le_of_lt_succ t.isLt)
  q _ := fullShare
  owed _ := 0

theorem A0_eq (c : Dev nD) (w : Fin cfg0.W) : (dat0 V c).A w = V c (Proc.devRef .tc (Pipeline.arrRef spec0 w)) := by
  dsimp only [dat0]

theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t

theorem after0_0 (c : Dev nD) (t : Fin cfg0.N) : (dat0 V c).after 0 t = iblk0 V c 0 t := by dsimp only [dat0]
theorem after0_1 (c : Dev nD) (t : Fin cfg0.N) : (dat0 V c).after 1 t = k0_pay4 (acc0 V c t.val t.isLt) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)

/-! ## The body's conditions over the grid -/

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val ≠ 0 :=
  (by decide +kernel : ∀ t : Fin grid0.N, cond0_2 (grid0.coords t) ↔ t.val ≠ 0)
theorem hcond0_3 : ∀ t : Fin cfg0.N, k0_cond3 (grid0.coords t) = 1#1 ↔ t.val = 23 :=
  (by decide +kernel : ∀ t : Fin grid0.N, k0_cond3 (grid0.coords t) = 1#1 ↔ t.val = 23)
theorem liveAt0_0 : ∀ t : Fin cfg0.N, cfg0.idle 0 (grid0.coords t) = false := fun _ => rfl
theorem idleAt0_1 : ∀ t : Fin cfg0.N, t.val ≠ 23 → cfg0.idle 1 (grid0.coords t) = true := by decide +kernel
theorem liveAt0_1 : ∀ t : Fin cfg0.N, t.val = 23 → cfg0.idle 1 (grid0.coords t) = false := by decide +kernel
theorem noFlush0_1 : ∀ t : Fin cfg0.N, t.val ≠ 23 → (cfg0.win 1).flush t = false := by decide +kernel

/-! ## The body's obligation -/

abbrev ms0_0 (t : Fin cfg0.N) : Memref sig .tc .vmem S1024x3584 .bf16 := win0_0.stage (cfg0.slots t 0)
abbrev ms0_1 (t : Fin cfg0.N) : Memref sig .tc .vmem S8x128 .f32 := win0_1.stage (cfg0.slots t 1)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl]
  rw [show (dat0 V c).leavesExact 0 t = owns (c : Thread nD τ) (ms0_0 t) fullShare ((dat0 V c).after 0 t) from by
    unfold Dat.leavesExact; rw [liveAt0_0 t], after0_0]
  rw [Phi0_castSucc]
  rw [show Phi0 V c (t.val + 1) t.isLt = iprop(owns (c : Thread nD τ) scM0 fullShare (acc0 V c t.val t.isLt) ∗ rest0 c ∗ ∃ r, prngReg c r) from rfl]
  have hN : t.val < 24 := lt_of_lt_of_eq t.isLt (show cfg0.N = 24 from N_0)
  by_cases hz : t.val = 0
  · have h23 : t.val ≠ 23 := by omega
    rw [Dat.leavesExact_idle (dat0 V c) 1 t (idleAt0_1 t h23) (noFlush0_1 t h23), Phi0_zero V c _ _ hz,
      show acc0 V c t.val t.isLt = k0_pay2 (iblk0 V c 0 t) from by obtain ⟨n, hn⟩ := t; dsimp only at hz; subst hz; rfl]
    iintro ⟨⟨HS0, Hr, Hg⟩, Ho, ⟨%d0, H0⟩, ⟨%d1, H1⟩⟩
    iapply (amax_first c (grid0.coords t) (ms0_0 t) (hstage0_0 ((cfg0.slots t 0).cast nbuf0_0)) (ms0_1 t) (hstage0_1 ((cfg0.slots t 1).cast nbuf0_1))
      scM0 (Memref.isWhole_whole _) ((hcond0_1 t).mpr hz) (fun h => (hcond0_2 t).mp h hz) (fun h => h23 ((hcond0_3 t).mp h)) (iblk0 V c 0 t) Set.univ _)
    isplitl [H0]; · iexact H0
    isplitl [HS0]; · iexact HS0
    iintro ⟨H0, HS0⟩
    isplitl [HS0 Hr Hg]
    · isplitl [HS0]; · iexact HS0
      isplitl [Hr]; · iexact Hr
      iexact Hg
    isplitl [Ho]; · iexact Ho
    isplitl [H0]; · iexact H0
    iexists _; iexact H1
  · rw [Phi0_pos V c _ _ hz, acc0_pos V c t hz]
    by_cases h23 : t.val = 23
    · rw [show (dat0 V c).leavesExact 1 t = owns (c : Thread nD τ) (ms0_1 t) fullShare ((dat0 V c).after 1 t) from by
        unfold Dat.leavesExact; rw [liveAt0_1 t h23], after0_1, acc0_pos V c t hz]
      iintro ⟨⟨HS0, Hr, Hg⟩, Ho, ⟨%d0, H0⟩, ⟨%d1, H1⟩⟩
      iapply (amax_last c (grid0.coords t) (ms0_0 t) (hstage0_0 ((cfg0.slots t 0).cast nbuf0_0)) (ms0_1 t) (hstage0_1 ((cfg0.slots t 1).cast nbuf0_1))
        scM0 (Memref.isWhole_whole _) (fun h => hz ((hcond0_1 t).mp h)) ((hcond0_2 t).mpr hz) ((hcond0_3 t).mpr h23) (iblk0 V c 0 t) _ Set.univ _)
      isplitl [H0]; · iexact H0
      isplitl [H1]; · iexists _; iexact H1
      isplitl [HS0]; · iexact HS0
      iintro ⟨H0, H1, HS0⟩
      isplitl [HS0 Hr Hg]
      · isplitl [HS0]; · iexact HS0
        isplitl [Hr]; · iexact Hr
        iexact Hg
      isplitl [Ho]; · iexact Ho
      isplitl [H0]; · iexact H0
      iexact H1
    · rw [Dat.leavesExact_idle (dat0 V c) 1 t (idleAt0_1 t h23) (noFlush0_1 t h23)]
      iintro ⟨⟨HS0, Hr, Hg⟩, Ho, ⟨%d0, H0⟩, ⟨%d1, H1⟩⟩
      iapply (amax_mid c (grid0.coords t) (ms0_0 t) (hstage0_0 ((cfg0.slots t 0).cast nbuf0_0)) (ms0_1 t) (hstage0_1 ((cfg0.slots t 1).cast nbuf0_1))
        scM0 (Memref.isWhole_whole _) (fun h => hz ((hcond0_1 t).mp h)) ((hcond0_2 t).mpr hz) (fun h => h23 ((hcond0_3 t).mp h)) (iblk0 V c 0 t) _ Set.univ _)
      isplitl [H0]; · iexact H0
      isplitl [HS0]; · iexact HS0
      iintro ⟨H0, HS0⟩
      isplitl [HS0 Hr Hg]
      · isplitl [HS0]; · iexact HS0
        isplitl [Hr]; · iexact Hr
        iexact Hg
      isplitl [Ho]; · iexact Ho
      isplitl [H0]; · iexact H0
      iexists _; iexact H1

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-- The invariant's first state, from the scoped buffers and the generator's register, -/
theorem hin0 (c : Dev nD) :
    iprop(Pipeline.scopedRest (Ix := Unit) (Name := ℕ) (U := UU nD τ) (Lvl := ℕ) (Val := Elt F) spec0 c ∗ ∃ r, prngReg c r) ⊢ (dat0 V c).Φ 0 := by
  rw [show (dat0 V c).Φ 0 = Phi0 V c 0 (Nat.zero_le _) from rfl, Phi0_zero V c 0 _ rfl, scoped0]
  iintro ⟨⟨HS, Hr⟩, Hg⟩
  isplitl [HS]; · iexact HS
  isplitl [Hr]; · iexact Hr
  iexact Hg

/-- and its last state gives them back. -/
theorem hout0 (c : Dev nD) :
    (dat0 V c).Φ (Fin.last cfg0.N) ⊢ iprop(Pipeline.scopedRest (Ix := Unit) (Name := ℕ) (U := UU nD τ) (Lvl := ℕ) (Val := Elt F) spec0 c ∗ ∃ r, prngReg c r) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 24 := N_0; omega), scoped0]
  iintro ⟨HS, Hr, Hg⟩
  isplitl [HS Hr]
  · isplitl [HS]; · iexists _; iexact HS
    iexact Hr
  iexact Hg

end Cert.KernelIdeal.Hand

end
-- ==== Proof.DwRegionIdeal.lean ====
module

public import proofs.«01_k».proof.Proof.AmaxRegionIdeal
public import Idealize.ShloMosaic.Lib.Pipeline.RegionArraysD
public import Idealize.ShloMosaic.Lib.Pipeline.TableIdle
public import Idealize.ShloMosaic.Lib.Pipeline.TalkSched

/-! # The weight-gradient call as a region

What the output tile's buffer holds after each of the 96 points (`acc1`), the state of the transfer of the old tile
between the points, the region's proof data, and the body's obligation from the six triples. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The old weight gradient as the region finds it. -/
abbrev XA1 (c : Dev nD) : Buf (Elt F) (dwM.view.loc (c : Thread nD τ)) := V c (Proc.devRef .tc main_arg3)

/-- The tile's row and column at point `n`. -/
def tp (n : ℕ) : Fin 2 := ⟨n / 48 % 2, Nat.mod_lt _ (by decide)⟩
def tq (n : ℕ) : Fin 2 := ⟨n / 24 % 2, Nat.mod_lt _ (by decide)⟩

/-- One row block's product, added to `s`. -/
def step1 (c : Dev nD) (t : Fin cfg1.N) (s : Vec F S1792x1792 .f32) : Vec F S1792x1792 .f32 :=
  k1_pay3 (iblk1 V c 2 t) (fac0 (iblk1 V c 0 t)) s (iblk1 V c 1 t)

/-- The accumulator after point `n`: the products of the tile's row blocks so far. -/
def acc1 (c : Dev nD) : (n : ℕ) → n < cfg1.N → Vec F S1792x1792 .f32
  | 0, h => step1 V c ⟨0, h⟩ (k1_pay1 (F := F))
  | n + 1, h => step1 V c ⟨n + 1, h⟩ (if (n + 1) % 24 = 0 then k1_pay1 (F := F) else acc1 c n (Nat.lt_of_succ_lt h))

theorem acc1_first (c : Dev nD) (t : Fin cfg1.N) (hz : t.val % 24 = 0) :
    acc1 V c t.val t.isLt = step1 V c t (k1_pay1 (F := F)) := by
  obtain ⟨n, hn⟩ := t
  cases n with
  | zero => rfl
  | succ n => show step1 V c _ (if (n + 1) % 24 = 0 then _ else _) = _; rw [if_pos hz]

theorem acc1_next (c : Dev nD) (t : Fin cfg1.N) (hz : t.val % 24 ≠ 0) :
    acc1 V c t.val t.isLt = step1 V c t (acc1 V c (t.val - 1) (by omega)) := by
  obtain ⟨n, hn⟩ := t
  cases n with
  | zero => exact absurd rfl hz
  | succ n => show step1 V c _ (if (n + 1) % 24 = 0 then _ else _) = _; rw [if_neg hz]; rfl

/-- What the output tile's buffer holds after point `t`. -/
def out3 (c : Dev nD) (t : Fin cfg1.N) : Vec F S1792x1792 .f32 :=
  if t.val % 24 = 23 then
    k1_pay4 ((tile (tp t.val) (tq t.val)).view.read (Elt F) (XA1 V c)) (acc1 V c t.val t.isLt) (fac1 (iblk1 V c 0 t))
  else acc1 V c t.val t.isLt

/-- The point whose codes the codes' buffer holds after point `t`. -/
def codePt (t : Fin cfg1.N) : Fin cfg1.N := ⟨min t.val 47, lt_of_le_of_lt (min_le_left _ _) t.isLt⟩

/-- The codes of point `t`'s block. -/
def codes (c : Dev nD) (t : Fin cfg1.N) : Vec F S1024x1792 .fp8e5m2 := k1_pay2 (iblk1 V c 2 t) (fac0 (iblk1 V c 0 t))

/-- The core's scoped buffers that this call does not use: the other call's. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_scratch0), ((c : Thread nD τ).loc cc0_scratch0) ↦{fullShare} f))

theorem bufP_whole (c : Dev nD) (f : Buf (Elt F) (bufM.view.loc (c : Thread nD τ))) :
    (bufP c f : sProp 𝕄) = (((c : Thread nD τ).loc cc1_scratch0) ↦{fullShare} f) := by
  unfold bufP; simp only [bufM, Memref.view_whole, View.set_whole]

theorem scoped1_out (c : Dev nD) :
    iprop(rest1 c ∗ (∃ f, bufP c f)) ⊢ (Pipeline.scopedRest (Ix := Unit) (Name := ℕ) (U := UU nD τ) (Lvl := ℕ) (Val := Elt F) spec1 c : sProp 𝕄) := by
  rw [scopedRest1_eq]; unfold rest1; simp only [bufP_whole]
  iintro ⟨⟨H1, H2, H3, H4⟩, H5⟩
  isplitl [H1]; · iexact H1
  isplitl [H2]; · iexact H2
  isplitl [H3]; · iexact H3
  isplitl [H4]; · iexact H4
  iexact H5

theorem scoped1_in (c : Dev nD) :
    (Pipeline.scopedRest (Ix := Unit) (Name := ℕ) (U := UU nD τ) (Lvl := ℕ) (Val := Elt F) spec1 c : sProp 𝕄) ⊢ iprop(rest1 c ∗ (∃ f, bufP c f)) := by
  rw [scopedRest1_eq]; unfold rest1; simp only [bufP_whole]
  iintro ⟨H1, H2, H3, H4, H5⟩
  isplitr [H5]
  · isplitl [H1]; · iexact H1
    isplitl [H2]; · iexact H2
    isplitl [H3]; · iexact H3
    iexact H4
  iexact H5

/-- The old weight gradient, whole. -/
abbrev dwP (c : Dev nD) : sProp 𝕄 := ((c : Thread nD τ).loc main_arg3) ↦{fullShare} XA1 V c
/-- The old weight gradient off tile `(p, q)`. -/
def offP (c : Dev nD) (p q : Fin 2) : sProp 𝕄 :=
  dwM.view.loc (c : Thread nD τ) ↦[Finset.univ \ (tile p q).view.set]{fullShare} XA1 V c

theorem dw_split (c : Dev nD) (p q : Fin 2) : dwP V c ⊢ iprop(tileP c (XA1 V c) p q ∗ offP V c p q) :=
  (pointsTo_split_subset (Finset.subset_univ (tile p q).view.set)).1
theorem dw_join (c : Dev nD) (p q : Fin 2) : iprop(tileP c (XA1 V c) p q ∗ offP V c p q) ⊢ dwP V c :=
  (pointsTo_split_subset (Finset.subset_univ (tile p q).view.set)).2

/-- The transfer between points, before point `n`: before a tile's first row block the array is whole, the buffer
    free and the semaphore at zero; before the others the tile is on its way. -/
def mid1 (c : Dev nD) (n : ℕ) : sProp 𝕄 :=
  if n % 24 = 0 then iprop(dwP V c ∗ (∃ f, bufP c f) ∗ cellP c)
  else iprop((∃ f, flightP c (XA1 V c) (tp n) (tq n) f) ∗ offP V c (tp n) (tq n))

/-- The invariant before point `n`. -/
def Phi1 (c : Dev nD) (n : ℕ) (_ : n ≤ cfg1.N) : sProp 𝕄 :=
  iprop(mid1 V c n ∗ rest1 c ∗ ∃ r, prngReg c r)

/-- The region's proof data on core `c`. -/
def dat1 (c : Dev nD) : Dat τ (Elt F) Unit ℕ (UU nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => out3 V c t
    | ⟨4, _⟩ => codes V c (codePt t)
  Φ t := Phi1 V c t.val (Nat.le_of_lt_succ t.isLt)
  q _ := fullShare
  owed _ := 0

theorem A1_eq (c : Dev nD) (w : Fin cfg1.W) : (dat1 V c).A w = V c (Proc.devRef .tc (Pipeline.arrRef spec1 w)) := by
  dsimp only [dat1]
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3 V c t := by dsimp only [dat1]
theorem after1_4 (c : Dev nD) (t : Fin cfg1.N) : (dat1 V c).after 4 t = codes V c (codePt t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A1_eq]; try rfl) t d).trans
    (by unfold Dat.fetched Dat.blockOf iblk1; rw [A1_eq]; try rfl)

/-! ## The body's conditions over the grid -/

theorem hcond1_1 : ∀ t : Fin cfg1.N, k1_cond1 (grid1.coords t) = 1#1 ↔ t.val % 24 = 0 :=
  (by decide +kernel : ∀ t : Fin grid1.N, k1_cond1 (grid1.coords t) = 1#1 ↔ t.val % 24 = 0)
theorem hcond1_2 : ∀ t : Fin cfg1.N, k1_cond2 (grid1.coords t) = 1#1 ↔ t.val < 48 :=
  (by decide +kernel : ∀ t : Fin grid1.N, k1_cond2 (grid1.coords t) = 1#1 ↔ t.val < 48)
theorem hcond1_3 : ∀ t : Fin cfg1.N, k1_cond3 (grid1.coords t) = 1#1 ↔ t.val % 24 = 23 :=
  (by decide +kernel : ∀ t : Fin grid1.N, k1_cond3 (grid1.coords t) = 1#1 ↔ t.val % 24 = 23)
theorem hcoord0 : ∀ t : Fin cfg1.N, (grid1.coords t 0 : Fin 2) = tp t.val :=
  fun t => Fin.ext ((by decide +kernel : ∀ t : Fin grid1.N, (grid1.coords t 0).val = (tp t.val).val) t)
theorem hcoord1 : ∀ t : Fin cfg1.N, (grid1.coords t 1 : Fin 2) = tq t.val :=
  fun t => Fin.ext ((by decide +kernel : ∀ t : Fin grid1.N, (grid1.coords t 1).val = (tq t.val).val) t)
theorem idleAt1_4 : ∀ t : Fin cfg1.N, 48 ≤ t.val → cfg1.idle 4 (grid1.coords t) = true := by decide +kernel
theorem liveAt1_4 : ∀ t : Fin cfg1.N, t.val < 48 → cfg1.idle 4 (grid1.coords t) = false := by decide +kernel
theorem noFlush1_4 : ∀ t : Fin cfg1.N, 48 ≤ t.val → t.val ≠ 95 → (cfg1.win 4).flush t = false := by decide +kernel
theorem flush1_4_last : ∀ t : Fin cfg1.N, t.val = 95 → (cfg1.win 4).flush t = true := by decide +kernel
theorem fresh1_4 : cfg1.fresh 4 95 = false := by decide +kernel
theorem noFlush1_3 (t : Fin cfg1.N) (h : t.val % 24 ≠ 23) : (cfg1.win 3).flush t = false := by
  cases hf : (cfg1.win 3).flush t with
  | false => rfl
  | true => exact absurd ((flush1_3 t).mp hf) h

theorem tp_succ (n : ℕ) (h : (n + 1) % 24 ≠ 0) : tp (n + 1) = tp n := Fin.ext (by unfold tp; dsimp only; omega)
theorem tq_succ (n : ℕ) (h : (n + 1) % 24 ≠ 0) : tq (n + 1) = tq n := Fin.ext (by unfold tq; dsimp only; omega)

/-- Past the first row block the output tile's buffer holds the accumulator. -/
theorem before1_3 (c : Dev nD) (t : Fin cfg1.N) (hz : t.val % 24 ≠ 0) (d) :
    (dat1 V c).before 3 t d = acc1 V c (t.val - 1) (by omega) := by
  rw [(dat1 V c).before_out_kept 3 rfl t (by omega) (noFlush1_3 _ (by show (t.val - 1) % 24 ≠ 23; omega)) (fun _ => rfl) (fun _ _ => rfl) d, after1_3]
  unfold out3
  rw [if_neg (by show ¬(t.val - 1) % 24 = 23; omega)]

/-- At the last point the codes' buffer holds what the second tile row's start left there. -/
theorem before1_4 (c : Dev nD) (t : Fin cfg1.N) (hz : t.val = 95) (d) :
    (dat1 V c).before 4 t d = codes V c (codePt t) := by
  rw [(dat1 V c).before_out_traj 4 rfl (fun _ _ => rfl) (fun t ht hi _ => by
    rw [after1_4, after1_4]
    refine congrArg (codes V c) (Fin.ext ?_)
    unfold codePt; dsimp only
    by_cases hlt : t.val < 48
    · rw [liveAt1_4 t hlt] at hi; exact absurd hi Bool.false_ne_true
    · omega) t.val t rfl d]
  rw [show cfg1.fresh 4 t.val = false from by rw [hz]; exact fresh1_4, if_neg Bool.false_ne_true, after1_4]
  refine congrArg (codes V c) (Fin.ext ?_)
  unfold codePt; dsimp only; omega

/-! ## The body's obligation -/

abbrev ms1_0 (t : Fin cfg1.N) : Memref sig .tc .smem S2 .f32 := win1_0.stage (cfg1.slots t 0)
abbrev ms1_1 (t : Fin cfg1.N) : Memref sig .tc .vmem S1024x1792 .fp8e4m3 := win1_1.stage (cfg1.slots t 1)
abbrev ms1_2 (t : Fin cfg1.N) : Memref sig .tc .vmem S1024x1792 .bf16 := win1_2.stage (cfg1.slots t 2)
abbrev ms1_3 (t : Fin cfg1.N) : Memref sig .tc .vmem S1792x1792 .f32 := win1_3.stage (cfg1.slots t 3)
abbrev ms1_4 (t : Fin cfg1.N) : Memref sig .tc .vmem S1024x1792 .fp8e5m2 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3 (c : Dev nD) (t : Fin cfg1.N) :
    (dat1 V c).leavesExact 3 t = owns (c : Thread nD τ) (ms1_3 t) fullShare (out3 V c t) := by
  rw [← after1_3]
theorem leaves1_4_live (c : Dev nD) (t : Fin cfg1.N) (h : t.val < 48) :
    (dat1 V c).leavesExact 4 t = owns (c : Thread nD τ) (ms1_4 t) fullShare (codes V c t) := by
  rw [show codes V c t = (dat1 V c).after 4 t from by
    rw [after1_4]; refine congrArg (codes V c) (Fin.ext ?_); unfold codePt; dsimp only; omega]
  unfold Dat.leavesExact; rw [liveAt1_4 t h]
/-- Where no codes are stored, what the body found is what the point leaves. -/
theorem leaves1_4_idle (c : Dev nD) (t : Fin cfg1.N) (h : 48 ≤ t.val) :
    iprop(∃ d, owns (c : Thread nD τ) (ms1_4 t) fullShare ((dat1 V c).before 4 t d)) ⊢ (dat1 V c).leavesExact 4 t := by
  by_cases h95 : t.val = 95
  · rw [show (dat1 V c).leavesExact 4 t = owns (c : Thread nD τ) (ms1_4 t) fullShare ((dat1 V c).after 4 t) from by
      unfold Dat.leavesExact; rw [idleAt1_4 t h, flush1_4_last t h95], after1_4]
    simp only [before1_4 V c t h95]
    iintro ⟨%d, H⟩; iexact H
  · rw [Dat.leavesExact_idle (dat1 V c) 4 t (idleAt1_4 t h) (noFlush1_4 t h h95)]

theorem mid1_zero (c : Dev nD) (n : ℕ) (h : n % 24 = 0) :
    mid1 V c n = iprop(dwP V c ∗ (∃ f, bufP c f) ∗ cellP c) := if_pos h
theorem mid1_pos (c : Dev nD) (n : ℕ) (h : n % 24 ≠ 0) :
    mid1 V c n = iprop((∃ f, flightP c (XA1 V c) (tp n) (tq n) f) ∗ offP V c (tp n) (tq n)) := if_neg h

theorem owes_out1 (c : Dev nD) (t : Fin (cfg1.N + 1)) : (dat1 V c).owesAt () t ⊢ iprop(∃ W, owes (c : Thread nD τ) 0 W) :=
  TalkSites.owesAt_elim (dat1 V c) () t 0 rfl
theorem owes_in1 (c : Dev nD) (t : Fin (cfg1.N + 1)) : iprop(∃ W, owes (c : Thread nD τ) 0 W) ⊢ (dat1 V c).owesAt () t := by
  iintro ⟨%W, H⟩; iapply (TalkSites.owesAt_intro (dat1 V c) () t 0 rfl rfl W); iexact H

set_option maxHeartbeats 4800000 in
/-- The body at a tile's first row block. -/
theorem sound_first (c : Dev nD) (t : Fin cfg1.N) (hz : t.val % 24 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [leaves1_0, leaves1_1, leaves1_2, leaves1_3, Phi1_castSucc,
    show (dat1 V c).Φ t.succ = Phi1 V c (t.val + 1) t.isLt from rfl]
  unfold Phi1
  have h23 : t.val % 24 ≠ 23 := by omega
  have h1 : (t.val + 1) % 24 ≠ 0 := by omega
  rw [mid1_zero V c _ hz, mid1_pos V c _ h1, tp_succ _ h1, tq_succ _ h1]
  rw [show out3 V c t = step1 V c t (k1_pay1 (F := F)) from by unfold out3; rw [if_neg h23, acc1_first V c t hz]]
  unfold step1
  by_cases h48 : t.val < 48
  · rw [leaves1_4_live V c t h48]; unfold codes
    iintro ⟨⟨⟨HD, HB, HC⟩, Hr, Hg⟩, Ho, ⟨%d0, H0⟩, ⟨%d1, H1⟩, ⟨%d2, H2⟩, ⟨%d3, H3⟩, ⟨%d4, H4⟩⟩
    ihave HD' := (dw_split V c (tp t.val) (tq t.val)) $$ HD
    icases HD' with ⟨HT, HF⟩
    ihave Ho' := (owes_out1 V c _) $$ Ho
    iapply (dw_first_codes c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      ((hcond1_1 t).mpr hz) ((hcond1_2 t).mpr h48) (fun h => h23 ((hcond1_3 t).mp h)) (iblk1 V c 0 t) (iblk1 V c 1 t) (iblk1 V c 2 t) _)
    rw [hcoord0 t, hcoord1 t]
    isplitl [H0]; · iexact H0
    isplitl [H1]; · iexact H1
    isplitl [H2]; · iexact H2
    isplitl [H3]; · iexists _; iexact H3
    isplitl [H4]; · iexists _; iexact H4
    isplitl [HT]; · iexact HT
    isplitl [HB]; · iexact HB
    isplitl [HC]; · iexact HC
    isplitl [Ho']; · iexact Ho'
    iintro ⟨H0, H1, H2, H3, H4, HFl, Ho⟩
    ihave Ho' := (owes_in1 V c t.succ) $$ Ho
    isplitl [HFl HF Hr Hg]
    · isplitl [HFl HF]
      · isplitl [HFl]; · iexact HFl
        iexact HF
      isplitl [Hr]; · iexact Hr
      iexact Hg
    isplitl [Ho']; · iexact Ho'
    isplitl [H0]; · iexact H0
    isplitl [H1]; · iexact H1
    isplitl [H2]; · iexact H2
    isplitl [H3]; · iexact H3
    iexact H4
  · iintro ⟨⟨⟨HD, HB, HC⟩, Hr, Hg⟩, Ho, ⟨%d0, H0⟩, ⟨%d1, H1⟩, ⟨%d2, H2⟩, ⟨%d3, H3⟩, H4⟩
    ihave HD' := (dw_split V c (tp t.val) (tq t.val)) $$ HD
    icases HD' with ⟨HT, HF⟩
    ihave Ho' := (owes_out1 V c _) $$ Ho
    iapply (dw_first c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      ((hcond1_1 t).mpr hz) (fun h => h48 ((hcond1_2 t).mp h)) (fun h => h23 ((hcond1_3 t).mp h)) (iblk1 V c 0 t) (iblk1 V c 1 t) (iblk1 V c 2 t) _)
    rw [hcoord0 t, hcoord1 t]
    isplitl [H0]; · iexact H0
    isplitl [H1]; · iexact H1
    isplitl [H2]; · iexact H2
    isplitl [H3]; · iexists _; iexact H3
    isplitl [HT]; · iexact HT
    isplitl [HB]; · iexact HB
    isplitl [HC]; · iexact HC
    isplitl [Ho']; · iexact Ho'
    iintro ⟨H0, H1, H2, H3, HFl, Ho⟩
    ihave Ho' := (owes_in1 V c t.succ) $$ Ho
    ihave H4' := (leaves1_4_idle V c t (by omega)) $$ H4
    isplitl [HFl HF Hr Hg]
    · isplitl [HFl HF]
      · isplitl [HFl]; · iexact HFl
        iexact HF
      isplitl [Hr]; · iexact Hr
      iexact Hg
    isplitl [Ho']; · iexact Ho'
    isplitl [H0]; · iexact H0
    isplitl [H1]; · iexact H1
    isplitl [H2]; · iexact H2
    isplitl [H3]; · iexact H3
    iexact H4'

set_option maxHeartbeats 4800000 in
/-- The body at a row block between. -/
theorem sound_mid (c : Dev nD) (t : Fin cfg1.N) (hz : t.val % 24 ≠ 0) (h23 : t.val % 24 ≠ 23) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3 V c t hz]
  rw [leaves1_0, leaves1_1, leaves1_2, leaves1_3, Phi1_castSucc,
    show (dat1 V c).Φ t.succ = Phi1 V c (t.val + 1) t.isLt from rfl]
  rw [show (dat1 V c).owesAt () t.succ = (dat1 V c).owesAt () t.castSucc from rfl]
  unfold Phi1
  have h1 : (t.val + 1) % 24 ≠ 0 := by omega
  rw [mid1_pos V c _ hz, mid1_pos V c _ h1, tp_succ _ h1, tq_succ _ h1]
  rw [show out3 V c t = step1 V c t (acc1 V c (t.val - 1) (by omega)) from by unfold out3; rw [if_neg h23, acc1_next V c t hz]]
  unfold step1
  by_cases h48 : t.val < 48
  · rw [leaves1_4_live V c t h48]; unfold codes
    iintro ⟨HΦ, Ho, ⟨%d0, H0⟩, ⟨%d1, H1⟩, ⟨%d2, H2⟩, ⟨%d3, H3⟩, ⟨%d4, H4⟩⟩
    iapply (dw_mid_codes c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) ((hcond1_2 t).mpr h48) (fun h => h23 ((hcond1_3 t).mp h)) (iblk1 V c 0 t) (iblk1 V c 1 t) (iblk1 V c 2 t)
      (acc1 V c (t.val - 1) (by omega)) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, H4⟩
    iapply (dw_mid c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) (fun h => h48 ((hcond1_2 t).mp h)) (fun h => h23 ((hcond1_3 t).mp h)) (iblk1 V c 0 t) (iblk1 V c 1 t) (iblk1 V c 2 t)
      (acc1 V c (t.val - 1) (by omega)) _)
    isplitl [H0]; · iexact H0
    isplitl [H1]; · iexact H1
    isplitl [H2]; · iexact H2
    isplitl [H3]; · iexact H3
    iintro ⟨H0, H1, H2, H3⟩
    ihave H4' := (leaves1_4_idle V c t (by omega)) $$ H4
    isplitl [HΦ]; · iexact HΦ
    isplitl [Ho]; · iexact Ho
    isplitl [H0]; · iexact H0
    isplitl [H1]; · iexact H1
    isplitl [H2]; · iexact H2
    isplitl [H3]; · iexact H3
    iexact H4'

set_option maxHeartbeats 4800000 in
/-- The body at a tile's last row block. -/
theorem sound_last (c : Dev nD) (t : Fin cfg1.N) (h23 : t.val % 24 = 23) :
    bodyPre1 V c t ⊢ wp frame (wpE (defs₀ (F := F)) Variants.none c none) Set.univ (bodyAt1 t) (fun _ => bodyPost1 V c t) := by
  have hz : t.val % 24 ≠ 0 := by omega
  unfold bodyPre1 bodyPost1 bodyAt1
  simp only [before1_0, before1_1, before1_2, before1_3 V c t hz]
  rw [leaves1_0, leaves1_1, leaves1_2, leaves1_3, Phi1_castSucc,
    show (dat1 V c).Φ t.succ = Phi1 V c (t.val + 1) t.isLt from rfl]
  unfold Phi1
  have h1 : (t.val + 1) % 24 = 0 := by omega
  rw [mid1_pos V c _ hz, mid1_zero V c _ h1]
  rw [show out3 V c t = k1_pay4 ((tile (tp t.val) (tq t.val)).view.read (Elt F) (XA1 V c)) (step1 V c t (acc1 V c (t.val - 1) (by omega))) (fac1 (iblk1 V c 0 t)) from by
    unfold out3; rw [if_pos h23, acc1_next V c t hz]]
  unfold step1
  by_cases h48 : t.val < 48
  · rw [leaves1_4_live V c t h48]; unfold codes
    iintro ⟨⟨⟨HFl, HF⟩, Hr, Hg⟩, Ho, ⟨%d0, H0⟩, ⟨%d1, H1⟩, ⟨%d2, H2⟩, ⟨%d3, H3⟩, ⟨%d4, H4⟩⟩
    ihave Ho' := (owes_out1 V c _) $$ Ho
    iapply (dw_last_codes c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) ((hcond1_2 t).mpr h48) ((hcond1_3 t).mpr h23) (iblk1 V c 0 t) (iblk1 V c 1 t) (iblk1 V c 2 t)
      (acc1 V c (t.val - 1) (by omega)) _)
    rw [hcoord0 t, hcoord1 t]
    isplitl [H0]; · iexact H0
    isplitl [H1]; · iexact H1
    isplitl [H2]; · iexact H2
    isplitl [H3]; · iexact H3
    isplitl [H4]; · iexists _; iexact H4
    isplitl [HFl]; · iexact HFl
    isplitl [Ho']; · iexact Ho'
    iintro ⟨H0, H1, H2, H3, H4, HT, HB, HC, Ho⟩
    ihave Ho' := (owes_in1 V c t.succ) $$ Ho
    ihave HD := (dw_join V c (tp t.val) (tq t.val)) $$ [HT HF]
    · isplitl [HT] <;> iassumption
    isplitl [HD HB HC Hr Hg]
    · isplitl [HD HB HC]
      · isplitl [HD]; · iexact HD
        isplitl [HB]; · iexact HB
        iexact HC
      isplitl [Hr]; · iexact Hr
      iexact Hg
    isplitl [Ho']; · iexact Ho'
    isplitl [H0]; · iexact H0
    isplitl [H1]; · iexact H1
    isplitl [H2]; · iexact H2
    isplitl [H3]; · iexact H3
    iexact H4
  · iintro ⟨⟨⟨HFl, HF⟩, Hr, Hg⟩, Ho, ⟨%d0, H0⟩, ⟨%d1, H1⟩, ⟨%d2, H2⟩, ⟨%d3, H3⟩, H4⟩
    ihave Ho' := (owes_out1 V c _) $$ Ho
    iapply (dw_last c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) (fun h => h48 ((hcond1_2 t).mp h)) ((hcond1_3 t).mpr h23) (iblk1 V c 0 t) (iblk1 V c 1 t) (iblk1 V c 2 t)
      (acc1 V c (t.val - 1) (by omega)) _)
    rw [hcoord0 t, hcoord1 t]
    isplitl [H0]; · iexact H0
    isplitl [H1]; · iexact H1
    isplitl [H2]; · iexact H2
    isplitl [H3]; · iexact H3
    isplitl [HFl]; · iexact HFl
    isplitl [Ho']; · iexact Ho'
    iintro ⟨H0, H1, H2, H3, HT, HB, HC, Ho⟩
    ihave Ho' := (owes_in1 V c t.succ) $$ Ho
    ihave HD := (dw_join V c (tp t.val) (tq t.val)) $$ [HT HF]
    · isplitl [HT] <;> iassumption
    ihave H4' := (leaves1_4_idle V c t (by omega)) $$ H4
    isplitl [HD HB HC Hr Hg]
    · isplitl [HD HB HC]
      · isplitl [HD]; · iexact HD
        isplitl [HB]; · iexact HB
        iexact HC
      isplitl [Hr]; · iexact Hr
      iexact Hg
    isplitl [Ho']; · iexact Ho'
    isplitl [H0]; · iexact H0
    isplitl [H1]; · iexact H1
    isplitl [H2]; · iexact H2
    isplitl [H3]; · iexact H3
    iexact H4'

theorem sound_body1 (c : Dev nD) (t : Fin cfg1.N) :
    bodyPre1 V c t ⊢ wp frame (wpE (defs₀ (F := F)) Variants.none c none) Set.univ (bodyAt1 t) (fun _ => bodyPost1 V c t) := by
  by_cases hz : t.val % 24 = 0
  · exact sound_first V c t hz
  · by_cases h23 : t.val % 24 = 23
    · exact sound_last V c t h23
    · exact sound_mid V c t hz h23

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- The call's own semaphore. -/
abbrev osem1 : Fin 1 → SemLoc sig := fun _ => .dma cc1_scratch1.sem
theorem ownSemFacts1 : Pipeline.OwnSemFacts spec1 osem1 := by decide
theorem ownSems1_eq (c : Dev nD) :
    (Pipeline.ownSems0 (Ix := Unit) (Name := ℕ) (U := UU nD τ) (Lvl := ℕ) (Val := Elt F) (τ := τ) osem1 c : sProp 𝕄) = cellP c := by
  unfold Pipeline.ownSems0; rw [Finset.univ_unique, bigSep_singleton]

/-- The invariant's first state, -/
theorem hin1 (c : Dev nD) :
    iprop(Pipeline.scopedRest (Ix := Unit) (Name := ℕ) (U := UU nD τ) (Lvl := ℕ) (Val := Elt F) spec1 c ∗ (∃ r, prngReg c r)
      ∗ Pipeline.ownSems0 osem1 c ∗ (bigSep {main_arg3} fun b => ((c.tc : Thread nD τ).loc b) ↦{fullShare} V c (Proc.devRef .tc b))
      ∗ Transfers.MayWaits (c : Thread nD τ) () 0) ⊢ (dat1 V c).Φ 0 := by
  rw [show (dat1 V c).Φ 0 = Phi1 V c 0 (Nat.zero_le _) from rfl, ownSems1_eq, bigSep_singleton]
  unfold Phi1; rw [mid1_zero V c 0 rfl]
  iintro ⟨HS, Hg, HC, HD, -⟩
  ihave HS' := (scoped1_in c) $$ HS
  icases HS' with ⟨Hr, HB⟩
  isplitl [HD HB HC]
  · isplitl [HD]; · iexact HD
    isplitl [HB]; · iexact HB
    iexact HC
  isplitl [Hr]; · iexact Hr
  iexact Hg

/-- and what its last state gives back. -/
theorem hout1 (c : Dev nD) :
    (dat1 V c).Φ (Fin.last cfg1.N) ⊢
    iprop(Pipeline.scopedRest (Ix := Unit) (Name := ℕ) (U := UU nD τ) (Lvl := ℕ) (Val := Elt F) spec1 c ∗ (∃ r, prngReg c r)
      ∗ Pipeline.ownSems0 osem1 c ∗ (bigSep {main_arg3} fun b => ((c.tc : Thread nD τ).loc b) ↦{fullShare} V c (Proc.devRef .tc b))) := by
  rw [show (dat1 V c).Φ (Fin.last cfg1.N) = Phi1 V c (Fin.last cfg1.N).val (Nat.le_of_lt_succ (Fin.last cfg1.N).isLt) from rfl, ownSems1_eq, bigSep_singleton]
  unfold Phi1; rw [mid1_zero V c _ (by rw [Fin.val_last]; have : cfg1.N = 96 := N_1; omega)]
  iintro ⟨⟨HD, HB, HC⟩, Hr, Hg⟩
  isplitl [Hr HB]
  · iapply (scoped1_out c); isplitl [Hr] <;> iassumption
  isplitl [Hg]; · iexact Hg
  isplitl [HC]; · iexact HC
  iexact HD

end Cert.KernelIdeal.Hand

end
-- ==== Proof.LaunchIdeal.lean ====
module

public import proofs.«01_k».proof.Proof.DwRegionIdeal

/-! # The whole program run

The two regions' segment records between the host lines, and the run: every unscoped buffer ends at the last
valuation, every semaphore counter at zero. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ)

/-- What the first call leaves. -/
def outsA : Outs (F := F) := fun _ r c => Pipeline.afterRegion (dat0 (V1 m) c) (V1 m c) (Proc.devRef .tc r)
/-- What the calls leave: the first over the launch contents, the second over what precedes it. -/
def outs : Outs (F := F) := fun k r c =>
  if k = 12 then Pipeline.afterRegion (dat1 (V11 m (outsA m)) c) (V11 m (outsA m) c) (Proc.devRef .tc r) else outsA m k r c

theorem V2_outs (c : Dev nD) : V2 m (outs m) c = V2 m (outsA m) c := rfl
theorem V11_outs (c : Dev nD) : V11 m (outs m) c = V11 m (outsA m) c := rfl

/-- Both calls' proof data. -/
def pdats : (p : Fin 2) → (c : Dev nD) → Dat τ (Elt F) Unit ℕ (UU nD τ) ℕ (cfgs p) c
  | ⟨0, _⟩ => fun c => dat0 (V1 m) c
  | ⟨1, _⟩ => fun c => dat1 (V11 m (outs m)) c

/-- Every cell of a TensorCore at level zero. -/
def Lall (g : GSem nD τ sig) : Finset Unit := if g.1.2 = .tc then {()} else ∅
def lv0 (_ : GSem nD τ sig) (_ : Unit) : ℕ := 0
theorem hLall : ∀ g : GSem nD τ sig, g.1.2 ≠ .tc → Lall g = ∅ := fun g h => if_neg h
theorem mem_Lall (c : Dev nD) (s : SemLoc sig) : () ∈ Lall ((c : Thread nD τ), s) := by
  unfold Lall; rw [if_pos rfl]; exact Finset.mem_singleton_self _

/-- The rest of a core's state between two items: it owes nothing, and holds the generator's register. -/
def EE (k : Fin 3) (c : Dev nD) : sProp 𝕄 :=
  iprop((∃ W, owes (c : Thread nD τ) (0 : CellTallies nD τ sig Unit) W) ∗ ∃ r, prngReg c r)

theorem cut0 : Pipeline.LevelCut (pcfgs (F := F)) adm () Lall lv0 0 (fun _ : Dev nD => (0 : CellTallies nD τ sig Unit)) (fun _ => 0) :=
  ⟨fun c _ _ => mem_Lall c _, fun _ _ _ => le_refl _, fun c g i h => absurd h (lt_irrefl _)⟩
theorem cut1 : Pipeline.LevelCut (pcfgs (F := F)) adm () Lall lv0 1 (fun _ : Dev nD => (0 : CellTallies nD τ sig Unit)) (fun _ => 0) :=
  ⟨fun c _ _ => mem_Lall c _, fun _ _ _ => le_refl _, fun c g i h => absurd h (lt_irrefl _)⟩

/-! ## The first call's record -/

def R0 : RegionSeg (pcfgs (F := F)) adm (pdats m) () defs₀ Variants.none Lall lv0 0 :=
  Pipeline.RegionSeg.ofHeldIn (pcfgs (F := F)) adm (pdats m) () defs₀ Variants.none Lall lv0 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl) (fun c => (dat0 (V1 m) c).share_full fun _ => rfl)
    (fun c => hin0 (V1 m) c) (fun c => hout0 (V1 m) c) (fun _ => 0) cut0 (fun _ => BI.emp) (V1 m) (fun c w => A0_eq (V1 m) c w)

theorem sub0 : Pipeline.arrRefs (τ := τ) (pcfgs (F := F) 0).spec ⊆ Pipeline.ucRefs τ sig :=
  Pipeline.arrRefs_sub_ucRefs spec0 (by decide)
theorem sub1 : Pipeline.arrRefs (τ := τ) (pcfgs (F := F) 1).spec ⊆ Pipeline.ucRefs τ sig :=
  Pipeline.arrRefs_sub_ucRefs spec1 (by decide)

theorem hpre0 (c : Dev nD) : iprop(StableHlo.held (c : Thread nD τ) (Pipeline.ucRefs τ sig) (V1 m c) ∗ EE 0 c) ⊢ (R0 m).pre c := by
  refine BI.BIBase.Entails.trans ?_ (Pipeline.RegionSeg.ofHeldIn_pre sub0 c)
  unfold EE
  iintro ⟨H, HO, Hg⟩
  isplitl [H]; · iexact H
  isplitl [HO]; · iexact HO
  isplitl [Hg]; · iexact Hg
  iempintro

theorem after0_V2 (c : Dev nD) : ∀ b ∈ Pipeline.ucRefs τ sig, Pipeline.afterRegion (dat0 (V1 m) c) (V1 m c) b = V2 m (outs m) c b := by
  intro b hb
  obtain ⟨r, -, rfl⟩ := Finset.mem_map.mp (Finset.mem_filter.mp hb).1
  by_cases hr : r = main_v2
  · subst hr
    exact (Function.update_self (f := V1 m c) (Proc.devRef .tc main_v2) (outs m 2 main_v2 c)).symm
  · refine (Pipeline.afterRegion_keeps (dat0 (V1 m) c) (V1 m c) launch0.win.arr_inj (A0_eq (V1 m) c) r ?_).trans
      (Function.update_of_ne (fun h => hr (Proc.devRef_injective _ h)) _ _).symm
    intro w hw
    match w, hw with
    | ⟨0, _⟩, _ => rfl
    | ⟨1, _⟩, hw => exact absurd hw.symm hr

theorem hpost0 (c : Dev nD) : (R0 m).post c ⊢ iprop(StableHlo.held (c : Thread nD τ) (Pipeline.ucRefs τ sig) (V2 m (outs m) c) ∗ EE 1 c) := by
  refine BI.BIBase.Entails.trans (Pipeline.RegionSeg.ofHeldIn_post sub0 c) ?_
  rw [← StableHlo.held_congr (c : Thread nD τ) (after0_V2 m c)]
  unfold EE
  iintro ⟨H, HO, Hg, -⟩
  isplitl [H]; · iexact H
  isplitl [HO]; · iexact HO
  iexact Hg

/-! ## The second call's record -/

/-- The unscoped buffers that are no window's array of the second call. -/
abbrev Sr1 : Finset (DevRef τ sig) := Pipeline.ucRefs τ sig \ Pipeline.arrRefs (pcfgs (F := F) 1).spec

theorem hHS1 : Pipeline.hbmRefs (τ := τ) {main_arg3} ⊆ Sr1 (F := F) := by
  intro b hb
  obtain ⟨r, hr, rfl⟩ := Finset.mem_map.mp hb
  obtain rfl := Finset.mem_singleton.mp hr
  refine Finset.mem_sdiff.mpr ⟨Finset.mem_filter.mpr ⟨StableHlo.devRef_mem_tcRefs main_arg3, by decide⟩, fun h => ?_⟩
  obtain ⟨r', hr', e⟩ := Finset.mem_map.mp h
  obtain ⟨w, -, rfl⟩ := Finset.mem_image.mp hr'
  exact (by decide : ∀ w : Fin 5, Pipeline.arrRef spec1 w ≠ main_arg3) w (Proc.devRef_injective _ e)

theorem after1_V12 (c : Dev nD) (w : Fin cfg1.W) :
    (dat1 (V11 m (outs m)) c).arrAt w cfg1.N = V12 m (outs m) c (Proc.devRef .tc (Pipeline.arrRef spec1 w)) := by
  have hin : ∀ w : Fin cfg1.W, (cfg1.win w).isOut = false → Pipeline.arrRef spec1 w ≠ main_v49_0 → Pipeline.arrRef spec1 w ≠ main_v49_1 →
      (dat1 (V11 m (outs m)) c).arrAt w cfg1.N = V12 m (outs m) c (Proc.devRef .tc (Pipeline.arrRef spec1 w)) := fun w h h0 h1 => by
    rw [(dat1 (V11 m (outs m)) c).arrAt_in w h _, A1_eq]
    unfold V12
    rw [Function.update_of_ne (fun e => h1 (Proc.devRef_injective _ e)), Function.update_of_ne (fun e => h0 (Proc.devRef_injective _ e))]
  match w with
  | ⟨0, _⟩ => exact hin 0 rfl (by decide) (by decide)
  | ⟨1, _⟩ => exact hin 1 rfl (by decide) (by decide)
  | ⟨2, _⟩ => exact hin 2 rfl (by decide) (by decide)
  | ⟨3, _⟩ =>
    refine (Pipeline.afterRegion_arr (dat1 (V11 m (outs m)) c) (V11 m (outs m) c) launch1.win.arr_inj 3).symm.trans ?_
    have h01 : (Proc.devRef .tc main_v49_0 : DevRef τ sig) ≠ Proc.devRef .tc main_v49_1 := fun e =>
      (by decide : main_v49_0 ≠ main_v49_1) (Proc.devRef_injective _ e)
    show _ = Function.update (Function.update (V11 m (outs m) c) (Proc.devRef .tc main_v49_0) (outs m 12 main_v49_0 c))
      (Proc.devRef .tc main_v49_1) (outs m 12 main_v49_1 c) (Proc.devRef .tc main_v49_0)
    rw [Function.update_of_ne h01, Function.update_self]
    rfl
  | ⟨4, _⟩ =>
    refine (Pipeline.afterRegion_arr (dat1 (V11 m (outs m)) c) (V11 m (outs m) c) launch1.win.arr_inj 4).symm.trans ?_
    show _ = Function.update (Function.update (V11 m (outs m) c) (Proc.devRef .tc main_v49_0) (outs m 12 main_v49_0 c))
      (Proc.devRef .tc main_v49_1) (outs m 12 main_v49_1 c) (Proc.devRef .tc main_v49_1)
    rw [Function.update_self]
    rfl
  | ⟨n + 5, h⟩ => exact absurd h (by show ¬(n + 5 < 5); omega)

/-- Off the second call's arrays nothing changes. -/
theorem off1_V12 (c : Dev nD) : ∀ b ∈ Sr1 (F := F), V12 m (outs m) c b = V11 m (outs m) c b := by
  intro b hb
  have hn := (Finset.mem_sdiff.mp hb).2
  have hne : ∀ w : Fin 5, b ≠ Proc.devRef .tc (Pipeline.arrRef spec1 w) := fun w e =>
    hn (Finset.mem_map.mpr ⟨_, Finset.mem_image.mpr ⟨w, Finset.mem_univ _, rfl⟩, e.symm⟩)
  exact (Function.update_of_ne (hne 4) _ _).trans (Function.update_of_ne (hne 3) _ _)

def R1 : RegionSeg (pcfgs (F := F)) adm (pdats m) () defs₀ Variants.none Lall lv0 1 :=
  Pipeline.RegionSeg.ofHeldDH (pcfgs (F := F)) adm (pdats m) () defs₀ Variants.none Lall lv0 1 (fun _ => 0) () osem1 ownSemFacts1
    {main_arg3} (Sr1 (F := F)) hHS1 launch1.toP rfl
    (fun c => (body_obligation1 (V11 m (outs m)) c).loose) (fun _ _ => rfl) (fun _ => rfl) (fun c => (dat1 (V11 m (outs m)) c).share_full fun _ => rfl)
    (fun c => by iintro -; iapply (Transfers.MayWaits.zero (c : Thread nD τ) ()); iempintro)
    (V11 m (outs m)) (V12 m (outs m))
    (fun c => hin1 (V11 m (outs m)) c) (fun c => hout1 (V11 m (outs m)) c) (fun _ => 0) cut1 (fun _ => BI.emp)
    (fun c w => A1_eq (V11 m (outs m)) c w) (fun c w => after1_V12 m c w)

theorem hpre1 (c : Dev nD) : iprop(StableHlo.held (c : Thread nD τ) (Pipeline.ucRefs τ sig) (V11 m (outs m) c) ∗ EE 1 c) ⊢ (R1 m).pre c := by
  show _ ⊢ iprop(StableHlo.held (c.tc : Thread nD τ) (Pipeline.arrRefs (pcfgs (F := F) 1).spec) (V11 m (outs m) c) ∗ (∃ r, prngReg c r)
      ∗ (StableHlo.held (c.tc : Thread nD τ) (Sr1 (F := F)) (V11 m (outs m) c) ∗ BI.emp) ∗ ∃ Wd, owes (c : Thread nD τ) (0 : CellTallies nD τ sig Unit) Wd)
  rw [StableHlo.held_sub_split (c : Thread nD τ) (sub1 (F := F)) (V11 m (outs m) c)]
  unfold EE
  iintro ⟨⟨Ha, Hr⟩, HO, Hg⟩
  isplitl [Ha]; · iexact Ha
  isplitl [Hg]; · iexact Hg
  isplitl [Hr]
  · isplitl [Hr]; · iexact Hr
    iempintro
  iexact HO

theorem hpost1 (c : Dev nD) : (R1 m).post c ⊢ iprop(StableHlo.held (c : Thread nD τ) (Pipeline.ucRefs τ sig) (V12 m (outs m) c) ∗ EE 2 c) := by
  show iprop(StableHlo.held (c.tc : Thread nD τ) (Pipeline.arrRefs (pcfgs (F := F) 1).spec) (V12 m (outs m) c) ∗ (∃ r, prngReg c r)
      ∗ (StableHlo.held (c.tc : Thread nD τ) (Sr1 (F := F)) (V11 m (outs m) c) ∗ BI.emp) ∗ ∃ Wd, owes (c : Thread nD τ) (0 : CellTallies nD τ sig Unit) Wd) ⊢ _
  rw [StableHlo.held_sub_split (c : Thread nD τ) (sub1 (F := F)) (V12 m (outs m) c),
    StableHlo.held_congr (c : Thread nD τ) (S := Sr1 (F := F)) (off1_V12 m c)]
  unfold EE
  iintro ⟨Ha, Hg, ⟨Hr, -⟩, HO⟩
  isplitl [Ha Hr]
  · isplitl [Ha]; · iexact Ha
    iexact Hr
  isplitl [HO]; · iexact HO
  iexact Hg

/-! ## The run -/

def u₀ : UU nD τ := (initOf (Pipeline.cells cfgs cellOf_inj) (Pipeline.launchToks cfgs cellOf_inj), 1)

theorem hu₀ : (ownU u₀ : sProp 𝕄) ⊢ |={Set.univ}=> iprop(BI.own (EP (initOf (Pipeline.cells cfgs cellOf_inj) (Pipeline.launchToks cfgs cellOf_inj))) ∗ bigSep Finset.univ (fun _ : Dev nD => (BI.emp : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts Lall lv0)
      ⊢ (|={Set.univ}=> bigSep Finset.univ (EE (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
      ⊢ (bigSep Finset.univ (EE (F := F) 0) : sProp 𝕄) := bigSep_mono fun c _ => show iprop(unscopedSems0 c ∗ owes (c : Thread nD τ) (0 : CellTallies nD τ sig Unit) ∅ ∗ Pipeline.launchCred (fun _ => 0) c ∗ prngReg c (ρ c) ∗ (BI.emp : sProp 𝕄)) ⊢ EE 0 c from by
    unfold EE
    iintro ⟨-, HO, -, Hg, -⟩
    isplitl [HO]; · iexists _; iexact HO
    iexists _; iexact Hg
  iintro ⟨H, -⟩
  imodintro
  iapply h; iexact H

theorem hE2 (c : Dev nD) : EE 2 c ⊢ (iprop(∃ W, owes (c : Thread nD τ) (0 : CellTallies nD τ sig Unit) W) : sProp 𝕄) := by
  unfold EE; iintro ⟨HO, -⟩; iexact HO

set_option backward.isDefEq.respectTransparency.types false in
/-- Every weakly fair execution ends with every unscoped buffer at the last valuation and every counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V13 m (outs m) c b)
      ∧ r.2.sem = fun _ => 0) := by
  refine Pipeline.θ_run_regions_kit_dev_sems (pcfgs (F := F)) adm (pdats m) () cellOf_inj EP defs₀ Variants.none Lall lv0 m ρ main
    (segs m (outs m) Variants.none Lall lv0 EE () (pdats m) (R0 m) (R1 m))
    (fun c Q => by
      rewrite [main_chain c, Seg.run_eq_chain,
        show (segs m (outs m) Variants.none Lall lv0 EE () (pdats m) (R0 m) (R1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hLall (fun _ => BI.emp) u₀ hu₀
    (T₀ := fun c => iprop(StableHlo.held (c : Thread nD τ) (Pipeline.ucRefs τ sig) (V0 m c) ∗ EE 0 c))
    (Tₙ := fun c => StableHlo.held (c : Thread nD τ) (Pipeline.ucRefs τ sig) (V13 m (outs m) c))
    (hch := fun c => ⟨.rfl, hpre0 m c, hpost0 m c, .rfl, .rfl, .rfl, .rfl, .rfl, .rfl, .rfl, .rfl, hpre1 m c, hpost1 m c, sep_mono .rfl (hE2 c)⟩)
    (hinit := ?_) (QY := fun c s => ∀ b ∈ Pipeline.ucRefs τ sig, s.mem ((c : Thread nD τ).1, b) = V13 m (outs m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UU nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro; exact h
    · iexact HSI

/-- The frame: the arguments end as launched, every counter at zero. -/
theorem frame_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_cond m EP () Variants.none Lall lv0 hLall ρ (outs m) (pdats m) (fun _ => 0) (fun _ => BI.emp) u₀ hu₀ EE (hE0 ρ) hE2
    (R0 m) (hpre0 m) (hpost0 m) (R1 m) (hpre1 m) (hpost1 m)

end Cert.KernelIdeal.Hand

end
-- ==== Proof.AmaxBody.lean ====
module

public import proofs.«01_k».proof.Proof.LaunchIdeal
public import proofs.«01_k».proof.Proof.Gen.Kernel.Regions
public import proofs.«01_k».proof.Proof.Gen.Kernel.Skeleton
public import proofs.«01_k».proof.Proof.Gen.Kernel.Points
public import Idealize.ShloMosaic.Lib.Tactic
public import Idealize.ShloMosaic.Lib.Pipeline.FrameBody
public import Idealize.ShloMosaic.Lib.VecWindow

/-! # The body of the column-maximum call, case by case

One triple per case of the grid point: the first point stores the block's column maximum into the scratch, a later
point takes the maximum with what the scratch holds, and the last point also reduces the scratch to one number and
broadcasts it into the output block. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own transfers ride on. -/
abbrev UU (nD : Nat) (τ : Topo) : Type := UR sig nD τ × Counters

local notation "𝕄" => MT nD τ sig Unit (Elt F) ℕ (UU nD τ) ℕ

/-- The first condition of the body: the point is the first. -/
abbrev cond0_1 (i : grid0.Coords) : Prop :=
  Scalar.cmpi .ne (Scalar.extui (Scalar.cmpi .eq (BitVec.ofNat 32 (i 0).val) 0#32) : BitVec 32) 0#32 = 1#1

/-- The second condition of the body: the point is not the first. -/
abbrev cond0_2 (i : grid0.Coords) : Prop :=
  Scalar.cmpi .ne (Scalar.extui (Scalar.cmpi .sgt (BitVec.ofNat 32 (i 0).val) 0#32) : BitVec 32) 0#32 = 1#1

set_option maxHeartbeats 1000000 in
/-- The first point: the scratch is left at the block's column maximum. -/
theorem amax_first (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S16x3584 .bf16)
    (harg3 : arg3.IsWhole) (hc0 : cond0_1 i) (hc1 : ¬cond0_2 i) (hc2 : ¬k0_cond3 i = 1#1)
    (x0 : Vec F S1024x3584 .bf16) (E : Set ℕ) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k0_pay2 x0)) -∗ K ⟨⟩))
      ⊢ wp frame (wpE (defs₀ (F := F)) Variants.none c none) E (cc0__amax_kernel i arg1 harg1 arg2 harg2 arg3 harg3) K := by
  simp only [cc0__amax_kernel_eq_skeleton]; unfold cc0__amax_kernel_skel
  unfold owns
  iintro ⟨⟨%f0, %hf0, H0⟩, ⟨%d1, %f1, -, HS0⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  iexists _; isplitr; swap; · iexact HS0
  ipureintro
  rw [View.read_writes_full, View.readAt_full, harg1.read_unread]

set_option maxHeartbeats 1000000 in
/-- A point between: the scratch takes the maximum with the block's column maximum. -/
theorem amax_mid (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S16x3584 .bf16)
    (harg3 : arg3.IsWhole) (hc0 : ¬cond0_1 i) (hc1 : cond0_2 i) (hc2 : ¬k0_cond3 i = 1#1)
    (x0 : Vec F S1024x3584 .bf16) (s : Vec F S16x3584 .bf16) (E : Set ℕ) (K : PUnit → sProp 𝕄) :
    iprop(owns (c : Thread nD τ) arg1 fullShare x0 ∗ owns (c : Thread nD τ) arg3 fullShare s
        ∗ (iprop(owns (c : Thread nD τ) arg1 fullShare x0 ∗ owns (c : Thread nD τ) arg3 fullShare (k0_pay3 x0 s)) -∗ K ⟨⟩))
      ⊢ wp frame (wpE (defs₀ (F := F)) Variants.none c none) E (cc0__amax_kernel i arg1 harg1 arg2 harg2 arg3 harg3) K := by
  simp only [cc0__amax_kernel_eq_skeleton]; unfold cc0__amax_kernel_skel
  unfold owns
  iintro ⟨⟨%f0, %hf0, H0⟩, ⟨%f1, %hf1, HS0⟩, Hk⟩
  obtain rfl := harg1.eq_unread hf0; obtain rfl := harg3.eq_unread hf1
  sl_exec (disch := first | sl_exact hc0 | sl_exact hc1 | sl_exact hc2)
  sl_step
  iapply Hk
  isplitl [H0]
  · iexists _; isplitr; · ipureintro; exact harg1.read_unread _
    iexact H0
  iexists _; isplitr; swap; · iexact HS0
  ipureintro
  rw [View.read_writes_full, View.readAt_full, View.readAt_full, harg1.read_unread, harg3.read_unread]

set_option maxHeartbeats 1000000 in
/-- The last point: as between, and the output block is left at the maximum of the scratch. -/
theorem amax_last (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S16x3584 .bf16)
    (harg3 : arg3.IsWhole) (hc0 : ¬cond0_1 i) (hc1 : cond0_2 i) (hc2 : k0_cond3 i = 1#1)
    (x0 : Vec F S1024x3584 .bf16) (s : Vec F S16x3584 .bf16) (E : Set ℕ) (K : PUnit → sProp 𝕄) :
    iprop(owns (c : Thread nD τ) arg1 fullShare x0 ∗ (∃ d, owns (c : Thread nD τ) arg2 fullShare d)
        ∗ owns (c : Thread nD τ) arg3 fullShare s
        ∗ (iprop(owns (c : Thread nD τ) arg1 fullShare x0 ∗ owns (c : Thread nD τ) arg2 fullShare (k0_pay4 (k0_pay3 x0 s))
            ∗ owns (c : Thread nD τ) arg3 fullShare (k0_pay3 x0 s)) -∗ K ⟨⟩))
      ⊢ wp frame (wpE (defs₀ (F := F)) Variants.none c none) E (cc0__amax_kernel i arg1 harg1 arg2 harg2 arg3 harg3) K := by
  simp only [cc0__amax_kernel_eq_skeleton]; unfold cc0__amax_kernel_skel
  unfold owns
  iintro ⟨⟨%f0, %hf0, H0⟩, ⟨%d1, %f1, -, H1⟩, ⟨%f2, %hf2, HS0⟩, Hk⟩
  obtain rfl := harg1.eq_unread hf0; obtain rfl := harg3.eq_unread hf2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; swap; · iexact H1
    ipureintro
    sl_unfold_words
    rw [View.read_writes_full, View.readCov_full, View.readAt_full, View.readAt_full, harg1.read_unread, harg3.read_unread]
  iexists _; isplitr; swap; · iexact HS0
  ipureintro
  sl_unfold_words
  rw [View.read_writes_full, View.readAt_full, View.readAt_full, harg1.read_unread, harg3.read_unread]

end Cert.Kernel.Hand

end
-- ==== Proof.DwBody.lean ====
module

public import proofs.«01_k».proof.Proof.AmaxBody
public import Idealize.ShloMosaic.Lib.Affine
public import Idealize.ShloMosaic.Lib.Ring

/-! # The body of the weight-gradient call, case by case

At the first of the 24 row blocks of a tile the body sends the tile's old values to its own buffer and zeroes the
accumulator; every block adds its product to the accumulator (and, for the first tile row, stores the block's codes);
at the last block the body waits for the old values and writes old plus factor times accumulator. One triple per
case. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The old weight gradient, where it lies. -/
abbrev dwM : Memref sig .tc .hbm S3584x3584 .f32 := Memref.whole main_arg3
/-- The buffer one tile of it is brought to. -/
abbrev bufM : Memref sig .tc .vmem S1792x1792 .f32 := Memref.whole cc1_scratch0

abbrev tileOff (p q : Fin 2) : Fin 2 → Nat := ![1792 * p.val, 1792 * q.val]
theorem tileOff_inb (p q : Fin 2) : ∀ a, tileOff p q a + S1792x1792.size a ≤ S3584x3584.size a := by
  revert p q; decide
/-- Tile `(p, q)` of the old weight gradient. -/
def tile (p q : Fin 2) : Memref sig .tc .hbm S1792x1792 .f32 :=
  dwM.slice (Rect.unit (s := S3584x3584) (tileOff p q) S1792x1792.size (tileOff_inb p q)) (fun _ => rfl)

instance (p q : Fin 2) : ClosedOff (tileOff p q) := ⟨tileOff p q, rfl⟩

@[sl_canon] theorem tile_off1 (i : grid1.Coords) (hh hs) :
    dwM.slice (Rect.unit (s := S3584x3584) (k1_off1 i) S1792x1792.size hh) hs = tile (i 0) (i 1) :=
  Memref.slice_unit_congr _ (k1_off1_eq i) _ _ _ (fun _ => rfl)
@[sl_canon] theorem tile_off2 (i : grid1.Coords) (hh hs) :
    dwM.slice (Rect.unit (s := S3584x3584) (k1_off2 i) S1792x1792.size hh) hs = tile (i 0) (i 1) :=
  Memref.slice_unit_congr _ (k1_off2_eq i) _ _ _ (fun _ => rfl)

/-- The first of the two factors: the one the codes are scaled by. -/
abbrev fac0 (x : Vec F S2 .f32) : Elt F .f32 :=
  View.ld x (Rect.unit (s := S2) ![0] S1.size inb_S2_S1_0) (Shape.Idx.first (by decide))
/-- The second of the two factors: the one the product is scaled by. -/
abbrev fac1 (x : Vec F S2 .f32) : Elt F .f32 :=
  View.ld x (Rect.unit (s := S2) ![1] S1.size inb_S2_S1_1) (Shape.Idx.first (by decide))

/-- A load of the whole buffer after the tile has landed reads the tile. -/
theorem load_landed (w : S1792x1792.Idx → Elt F .f32) :
    bufM.view.readCov [(⟨Rect.whole S1792x1792, w⟩ : View.Piece (Elt F) S1792x1792 .f32)]
      (Rect.unit (s := S1792x1792) ![0, 0] S1792x1792.size inb_S1792x1792_S1792x1792_0_0).toLoadRect = w := by
  unfold View.readCov
  rw [View.readAt_full, View.read_writes_whole]

section Pieces
variable (c : Dev nD) (XA : Buf (Elt F) (dwM.view.loc (c : Thread nD τ)))

/-- The transfer's semaphore at zero. -/
abbrev cellP : sProp 𝕄 := semVal ((c : Thread nD τ), SemLoc.dma cc1_scratch1.sem) 0
/-- The buffer at contents `f`. -/
abbrev bufP (f : Buf (Elt F) (bufM.view.loc (c : Thread nD τ))) : sProp 𝕄 :=
  bufM.view.loc (c : Thread nD τ) ↦[bufM.view.set]{fullShare} f
/-- One tile of the old weight gradient. -/
abbrev tileP (p q : Fin 2) : sProp 𝕄 := (tile p q).view.loc (c : Thread nD τ) ↦[(tile p q).view.set]{fullShare} XA
/-- The buffer after the tile has landed. -/
abbrev landed (p q : Fin 2) (f : Buf (Elt F) (bufM.view.loc (c : Thread nD τ))) : Buf (Elt F) (bufM.view.loc (c : Thread nD τ)) :=
  bufM.view.writes (Elt F) f [⟨Rect.whole S1792x1792, ReadAs.same.apply ((tile p q).view.read (Elt F) XA)⟩]
/-- The tile on its way into the buffer. -/
abbrev flightP (p q : Fin 2) (f : Buf (Elt F) (bufM.view.loc (c : Thread nD τ))) : sProp 𝕄 :=
  Transfers.Flight countersEmb (c : Thread nD τ) (SemLoc.dma cc1_scratch1.sem) () 401408 iprop(bufP c (landed c XA p q f) ∗ tileP c XA p q)

end Pieces

set_option maxHeartbeats 2000000 in
/-- The first row block of a tile, no codes stored. -/
theorem dw_first (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : k1_cond1 i = 1#1) (hc2 : ¬k1_cond2 i = 1#1) (hc3 : ¬k1_cond3 i = 1#1)
    (x3 : Vec F S2 .f32) (x4 : Vec F S1024x1792 .fp8e4m3) (x5 : Vec F S1024x1792 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg7 fullShare d)
        ∗ tileP c XA (i 0) (i 1) ∗ (∃ f, bufP c f) ∗ cellP c ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) (k1_pay1 (F := F)) x4)
            ∗ (∃ f, flightP c XA (i 0) (i 1) f) ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%d7, %f7, -, H7⟩, HT, ⟨%fb, HB⟩, HC, ⟨%W, HW⟩, Hk⟩
  obtain rfl := harg3.eq_unread hf3; obtain rfl := harg4.eq_unread hf4; obtain rfl := harg5.eq_unread hf5
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, View.readCov_full, View.readAt_full, View.readAt_full, harg4.read_unread, harg5.read_unread,
      View.readAt_eq_ld, harg3.read_unread]
  isplitl [HC]
  · iexists _; iexact HC
  iexists _; iexact HW

set_option maxHeartbeats 2000000 in
/-- The first row block of a tile, codes stored. -/
theorem dw_first_codes (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : k1_cond1 i = 1#1) (hc2 : k1_cond2 i = 1#1) (hc3 : ¬k1_cond3 i = 1#1)
    (x3 : Vec F S2 .f32) (x4 : Vec F S1024x1792 .fp8e4m3) (x5 : Vec F S1024x1792 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg7 fullShare d) ∗ (∃ d, owns (c : Thread nD τ) arg8 fullShare d)
        ∗ tileP c XA (i 0) (i 1) ∗ (∃ f, bufP c f) ∗ cellP c ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) (k1_pay1 (F := F)) x4) ∗ owns (c : Thread nD τ) arg8 fullShare (k1_pay2 x5 (fac0 x3))
            ∗ (∃ f, flightP c XA (i 0) (i 1) f) ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%d7, %f7, -, H7⟩, ⟨%d8, %f8, -, H8⟩, HT, ⟨%fb, HB⟩, HC, ⟨%W, HW⟩, Hk⟩
  obtain rfl := harg3.eq_unread hf3; obtain rfl := harg4.eq_unread hf4; obtain rfl := harg5.eq_unread hf5
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, View.readCov_full, View.readAt_full, View.readAt_full, harg4.read_unread, harg5.read_unread,
      View.readAt_eq_ld, harg3.read_unread]
  isplitl [H8]
  · iexists _; isplitr; swap; · iexact H8
    ipureintro
    sl_unfold_words
    rw [View.read_writes_full, View.readAt_full, harg5.read_unread, View.readAt_eq_ld, harg3.read_unread]
  isplitl [HC]
  · iexists _; iexact HC
  iexists _; iexact HW

set_option maxHeartbeats 2000000 in
/-- A row block between, no codes stored. -/
theorem dw_mid (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : ¬k1_cond2 i = 1#1) (hc3 : ¬k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) s x4)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H7
  ipureintro
  sl_unfold_words
  rw [View.read_writes_full, View.readAt_full, View.readAt_full, View.readAt_full, harg4.read_unread, harg5.read_unread,
    harg7.read_unread, View.readAt_eq_ld, harg3.read_unread]

set_option maxHeartbeats 2000000 in
/-- A row block between, codes stored. -/
theorem dw_mid_codes (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : k1_cond2 i = 1#1) (hc3 : ¬k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s ∗ (∃ d, owns (c : Thread nD τ) arg8 fullShare d)
        ∗ (iprop(owns (c : Thread nD τ) arg3 fullShare x3 ∗ owns (c : Thread nD τ) arg4 fullShare x4 ∗ owns (c : Thread nD τ) arg5 fullShare x5
            ∗ owns (c : Thread nD τ) arg7 fullShare (k1_pay3 x5 (fac0 x3) s x4) ∗ owns (c : Thread nD τ) arg8 fullShare (k1_pay2 x5 (fac0 x3))) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, ⟨%d8, %f8, -, H8⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, View.readAt_full, View.readAt_full, View.readAt_full, harg4.read_unread, harg5.read_unread,
      harg7.read_unread, View.readAt_eq_ld, harg3.read_unread]
  iexists _; isplitr; swap; · iexact H8
  ipureintro
  sl_unfold_words
  rw [View.read_writes_full, View.readAt_full, harg5.read_unread, View.readAt_eq_ld, harg3.read_unread]

set_option maxHeartbeats 2000000 in
/-- The last row block of a tile, no codes stored. -/
theorem dw_last (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : ¬k1_cond2 i = 1#1) (hc3 : k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s
        ∗ (∃ f, flightP c XA (i 0) (i 1) f) ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay4 ((tile (i 0) (i 1)).view.read (Elt F) XA) (k1_pay3 x5 (fac0 x3) s x4) (fac1 x3))
            ∗ tileP c XA (i 0) (i 1) ∗ (∃ f, bufP c f) ∗ cellP c ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, ⟨%fb, HC⟩, ⟨%W, HW⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, load_landed, View.readCov_full, View.readAt_full, View.readAt_full, View.readAt_full, harg4.read_unread, harg5.read_unread,
      harg7.read_unread, View.readAt_eq_ld, View.readAt_eq_ld, harg3.read_unread]
  isplitl [HC_src]; · iexact HC_src
  isplitl [HC_dst]; · iexists _; iexact HC_dst
  isplitl [HC]; · iexact HC
  iexists _; iexact HW

set_option maxHeartbeats 2000000 in
/-- The last row block of a tile, codes stored. -/
theorem dw_last_codes (c : Dev nD) (XA : Buf (Elt F) (dwM.view.loc (c : Thread nD τ))) (i : grid1.Coords)
    (arg3 : Memref sig .tc .smem S2 .f32) (harg3 : arg3.IsWhole) (arg4 : Memref sig .tc .vmem S1024x1792 .fp8e4m3) (harg4 : arg4.IsWhole)
    (arg5 : Memref sig .tc .vmem S1024x1792 .bf16) (harg5 : arg5.IsWhole) (arg7 : Memref sig .tc .vmem S1792x1792 .f32) (harg7 : arg7.IsWhole)
    (arg8 : Memref sig .tc .vmem S1024x1792 .fp8e5m2) (harg8 : arg8.IsWhole)
    (hc1 : ¬k1_cond1 i = 1#1) (hc2 : k1_cond2 i = 1#1) (hc3 : k1_cond3 i = 1#1)
    (x3 : Vec F S2 .f32) (x4 : Vec F S1024x1792 .fp8e4m3) (x5 : Vec F S1024x1792 .bf16) (s : Vec F S1792x1792 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg7 fullShare s ∗ (∃ d, owns (c : Thread nD τ) arg8 fullShare d)
        ∗ (∃ f, flightP c XA (i 0) (i 1) f) ∗ (∃ W, owes (c : Thread nD τ) 0 W)
        ∗ (iprop(owns (c : Thread nD τ) arg3 fullShare x3 ∗ owns (c : Thread nD τ) arg4 fullShare x4 ∗ owns (c : Thread nD τ) arg5 fullShare x5
            ∗ owns (c : Thread nD τ) arg7 fullShare (k1_pay4 ((tile (i 0) (i 1)).view.read (Elt F) XA) (k1_pay3 x5 (fac0 x3) s x4) (fac1 x3)) ∗ owns (c : Thread nD τ) arg8 fullShare (k1_pay2 x5 (fac0 x3))
            ∗ tileP c XA (i 0) (i 1) ∗ (∃ f, bufP c f) ∗ cellP c ∗ (∃ W, owes (c : Thread nD τ) 0 W)) -∗ K ⟨⟩))
      ⊢ wp frame (wpE (defs₀ (F := F)) Variants.none c none) Set.univ
        (cc1__dw_kernel i arg3 harg3 arg4 harg4 arg5 harg5 dwM (Memref.isWhole_whole _) arg7 harg7 arg8 harg8 bufM (Memref.isWhole_whole _) cc1_scratch1) K := by
  simp only [cc1__dw_kernel_eq_skeleton]; unfold cc1__dw_kernel_skel
  unfold owns
  iintro ⟨⟨%f3, %hf3, H3⟩, ⟨%f4, %hf4, H4⟩, ⟨%f5, %hf5, H5⟩, ⟨%f7, %hf7, H7⟩, ⟨%d8, %f8, -, H8⟩, ⟨%fb, HC⟩, ⟨%W, HW⟩, Hk⟩
  obtain rfl := harg3.eq_unread hf3; obtain rfl := harg4.eq_unread hf4; obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_words
    rw [View.read_writes_full, load_landed, View.readCov_full, View.readAt_full, View.readAt_full, View.readAt_full, harg4.read_unread, harg5.read_unread,
      harg7.read_unread, View.readAt_eq_ld, View.readAt_eq_ld, harg3.read_unread]
  isplitl [H8]
  · iexists _; isplitr; swap; · iexact H8
    ipureintro
    sl_unfold_words
    rw [View.read_writes_full, View.readAt_full, harg5.read_unread, View.readAt_eq_ld, harg3.read_unread]
  isplitl [HC_src]; · iexact HC_src
  isplitl [HC_dst]; · iexists _; iexact HC_dst
  isplitl [HC]; · iexact HC
  iexists _; iexact HW

end Cert.Kernel.Hand

end
-- ==== Proof.AmaxRegion.lean ====
module

public import proofs.«01_k».proof.Proof.DwBody
public import Idealize.ShloMosaic.Lib.Pipeline.RegionArraysS
public import Idealize.ShloMosaic.Lib.Pipeline.Frame

/-! # The column-maximum call as a region

What the scratch holds after each of the 24 points (`acc0`), the region's proof data over the buffers' contents at
its entry, and the body's obligation from the three triples. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the scratch holds after point `n`: the column maximum over the blocks so far. -/
def acc0 (c : Dev nD) : (n : ℕ) → n < cfg0.N → Vec F S16x3584 .bf16
  | 0, h => k0_pay2 (iblk0 V c 0 ⟨0, h⟩)
  | n + 1, h => k0_pay3 (iblk0 V c 0 ⟨n + 1, h⟩) (acc0 c n (Nat.lt_of_succ_lt h))

theorem acc0_pos (c : Dev nD) (t : Fin cfg0.N) (hz : t.val ≠ 0) :
    acc0 V c t.val t.isLt = k0_pay3 (iblk0 V c 0 t) (acc0 V c (t.val - 1) (by omega)) := by
  obtain ⟨n, hn⟩ := t
  cases n with
  | zero => exact absurd rfl hz
  | succ n => rfl

/-- The scratch. -/
abbrev scM0 : Memref sig .tc .vmem S16x3584 .bf16 := Memref.whole cc0_scratch0

/-- The core's other scoped buffers, at anything: the other call's. -/
def rest0 (c : Dev nD) : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_stg0_0), ((c : Thread nD τ).loc cc1_stg0_0) ↦{fullShare} f))

/-- The core's scoped buffers: the scratch at anything and the rest. -/
theorem scoped0 (c : Dev nD) :
    (Pipeline.scopedRest (Ix := Unit) (Name := ℕ) (U := UU nD τ) (Lvl := ℕ) (Val := Elt F) spec0 c : sProp 𝕄)
      = iprop((∃ d, owns (c : Thread nD τ) scM0 fullShare d) ∗ rest0 c) := by
  rw [scopedRest0_eq]; unfold rest0; simp only [scM0, owns_whole]; rfl

/-- The invariant before point `n`: the scratch at anything before the first, then at what the point before left. -/
def Phi0 (c : Dev nD) : (n : ℕ) → n ≤ cfg0.N → sProp 𝕄
  | 0, _ => iprop((∃ d, owns (c : Thread nD τ) scM0 fullShare d) ∗ rest0 c ∗ ∃ r, prngReg c r)
  | n + 1, hn => iprop(owns (c : Thread nD τ) scM0 fullShare (acc0 V c n hn) ∗ rest0 c ∗ ∃ r, prngReg c r)

theorem Phi0_zero (c : Dev nD) (n : ℕ) (h : n ≤ cfg0.N) (hz : n = 0) :
    Phi0 V c n h = iprop((∃ d, owns (c : Thread nD τ) scM0 fullShare d) ∗ rest0 c ∗ ∃ r, prngReg c r) := by
  subst hz; rfl

theorem Phi0_pos (c : Dev nD) (n : ℕ) (h : n ≤ cfg0.N) (hz : n ≠ 0) :
    Phi0 V c n h = iprop(owns (c : Thread nD τ) scM0 fullShare (acc0 V c (n - 1) (by omega)) ∗ rest0 c ∗ ∃ r, prngReg c r) := by
  cases n with
  | zero => exact absurd rfl hz
  | succ n => rfl

/-- The region's proof data on core `c`. -/
def dat0 (c : Dev nD) : Dat τ (Elt F) Unit ℕ (UU nD τ) ℕ cfg0 c where
  A w := V c (Proc.devRef .tc (Pipeline.arrRef spec0 w))
  after w t := match w with
    | ⟨0, _⟩ => iblk0 V c 0 t
    | ⟨1, _⟩ => k0_pay4 (acc0 V c t.val t.isLt)
  Φ t := Phi0 V c t.val (Nat.le_of_lt_succ t.isLt)
  q _ := fullShare
  owed _ := 0

theorem A0_eq (c : Dev nD) (w : Fin cfg0.W) : (dat0 V c).A w = V c (Proc.devRef .tc (Pipeline.arrRef spec0 w)) := by
  dsimp only [dat0]

theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t

theorem after0_0 (c : Dev nD) (t : Fin cfg0.N) : (dat0 V c).after 0 t = iblk0 V c 0 t := by dsimp only [dat0]
theorem after0_1 (c : Dev nD) (t : Fin cfg0.N) : (dat0 V c).after 1 t = k0_pay4 (acc0 V c t.val t.isLt) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)

/-! ## The body's conditions over the grid -/

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val ≠ 0 :=
  (by decide +kernel : ∀ t : Fin grid0.N, cond0_2 (grid0.coords t) ↔ t.val ≠ 0)
theorem hcond0_3 : ∀ t : Fin cfg0.N, k0_cond3 (grid0.coords t) = 1#1 ↔ t.val = 23 :=
  (by decide +kernel : ∀ t : Fin grid0.N, k0_cond3 (grid0.coords t) = 1#1 ↔ t.val = 23)
theorem liveAt0_0 : ∀ t : Fin cfg0.N, cfg0.idle 0 (grid0.coords t) = false := fun _ => rfl
theorem idleAt0_1 : ∀ t : Fin cfg0.N, t.val ≠ 23 → cfg0.idle 1 (grid0.coords t) = true := by decide +kernel
theorem liveAt0_1 : ∀ t : Fin cfg0.N, t.val = 23 → cfg0.idle 1 (grid0.coords t) = false := by decide +kernel
theorem noFlush0_1 : ∀ t : Fin cfg0.N, t.val ≠ 23 → (cfg0.win 1).flush t = false := by decide +kernel

/-! ## The body's obligation -/

abbrev ms0_0 (t : Fin cfg0.N) : Memref sig .tc .vmem S1024x3584 .bf16 := win0_0.stage (cfg0.slots t 0)
abbrev ms0_1 (t : Fin cfg0.N) : Memref sig .tc .vmem S8x128 .f32 := win0_1.stage (cfg0.slots t 1)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl]
  rw [show (dat0 V c).leavesExact 0 t = owns (c : Thread nD τ) (ms0_0 t) fullShare ((dat0 V c).after 0 t) from by
    unfold Dat.leavesExact; rw [liveAt0_0 t], after0_0]
  rw [Phi0_castSucc]
  rw [show Phi0 V c (t.val + 1) t.isLt = iprop(owns (c : Thread nD τ) scM0 fullShare (acc0 V c t.val t.isLt) ∗ rest0 c ∗ ∃ r, prngReg c r) from rfl]
  have hN : t.val < 24 := lt_of_lt_of_eq t.isLt (show cfg0.N = 24 from N_0)
  by_cases hz : t.val = 0
  · have h23 : t.val ≠ 23 := by omega
    rw [Dat.leavesExact_idle (dat0 V c) 1 t (idleAt0_1 t h23) (noFlush0_1 t h23), Phi0_zero V c _ _ hz,
      show acc0 V c t.val t.isLt = k0_pay2 (iblk0 V c 0 t) from by obtain ⟨n, hn⟩ := t; dsimp only at hz; subst hz; rfl]
    iintro ⟨⟨HS0, Hr, Hg⟩, Ho, ⟨%d0, H0⟩, ⟨%d1, H1⟩⟩
    iapply (amax_first c (grid0.coords t) (ms0_0 t) (hstage0_0 ((cfg0.slots t 0).cast nbuf0_0)) (ms0_1 t) (hstage0_1 ((cfg0.slots t 1).cast nbuf0_1))
      scM0 (Memref.isWhole_whole _) ((hcond0_1 t).mpr hz) (fun h => (hcond0_2 t).mp h hz) (fun h => h23 ((hcond0_3 t).mp h)) (iblk0 V c 0 t) Set.univ _)
    isplitl [H0]; · iexact H0
    isplitl [HS0]; · iexact HS0
    iintro ⟨H0, HS0⟩
    isplitl [HS0 Hr Hg]
    · isplitl [HS0]; · iexact HS0
      isplitl [Hr]; · iexact Hr
      iexact Hg
    isplitl [Ho]; · iexact Ho
    isplitl [H0]; · iexact H0
    iexists _; iexact H1
  · rw [Phi0_pos V c _ _ hz, acc0_pos V c t hz]
    by_cases h23 : t.val = 23
    · rw [show (dat0 V c).leavesExact 1 t = owns (c : Thread nD τ) (ms0_1 t) fullShare ((dat0 V c).after 1 t) from by
        unfold Dat.leavesExact; rw [liveAt0_1 t h23], after0_1, acc0_pos V c t hz]
      iintro ⟨⟨HS0, Hr, Hg⟩, Ho, ⟨%d0, H0⟩, ⟨%d1, H1⟩⟩
      iapply (amax_last c (grid0.coords t) (ms0_0 t) (hstage0_0 ((cfg0.slots t 0).cast nbuf0_0)) (ms0_1 t) (hstage0_1 ((cfg0.slots t 1).cast nbuf0_1))
        scM0 (Memref.isWhole_whole _) (fun h => hz ((hcond0_1 t).mp h)) ((hcond0_2 t).mpr hz) ((hcond0_3 t).mpr h23) (iblk0 V c 0 t) _ Set.univ _)
      isplitl [H0]; · iexact H0
      isplitl [H1]; · iexists _; iexact H1
      isplitl [HS0]; · iexact HS0
      iintro ⟨H0, H1, HS0⟩
      isplitl [HS0 Hr Hg]
      · isplitl [HS0]; · iexact HS0
        isplitl [Hr]; · iexact Hr
        iexact Hg
      isplitl [Ho]; · iexact Ho
      isplitl [H0]; · iexact H0
      iexact H1
    · rw [Dat.leavesExact_idle (dat0 V c) 1 t (idleAt0_1 t h23) (noFlush0_1 t h23)]
      iintro ⟨⟨HS0, Hr, Hg⟩, Ho, ⟨%d0, H0⟩, ⟨%d1, H1⟩⟩
      iapply (amax_mid c (grid0.coords t) (ms0_0 t) (hstage0_0 ((cfg0.slots t 0).cast nbuf0_0)) (ms0_1 t) (hstage0_1 ((cfg0.slots t 1).cast nbuf0_1))
        scM0 (Memref.isWhole_whole _) (fun h => hz ((hcond0_1 t).mp h)) ((hcond0_2 t).mpr hz) (fun h => h23 ((hcond0_3 t).mp h)) (iblk0 V c 0 t) _ Set.univ _)
      isplitl [H0]; · iexact H0
      isplitl [HS0]; · iexact HS0
      iintro ⟨H0, HS0⟩
      isplitl [HS0 Hr Hg]
      · isplitl [HS0]; · iexact HS0
        isplitl [Hr]; · iexact Hr
        iexact Hg
      isplitl [Ho]; · iexact Ho
      isplitl [H0]; · iexact H0
      iexists _; iexact H1

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-- The invariant's first state, from the scoped buffers and the generator's register, -/
theorem hin0 (c : Dev nD) :
    iprop(Pipeline.scopedRest (Ix := Unit) (Name := ℕ) (U := UU nD τ) (Lvl := ℕ) (Val := Elt F) spec0 c ∗ ∃ r, prngReg c r) ⊢ (dat0 V c).Φ 0 := by
  rw [show (dat0 V c).Φ 0 = Phi0 V c 0 (Nat.zero_le _) from rfl, Phi0_zero V c 0 _ rfl, scoped0]
  iintro ⟨⟨HS, Hr⟩, Hg⟩
  isplitl [HS]; · iexact HS
  isplitl [Hr]; · iexact Hr
  iexact Hg

/-- and its last state gives them back. -/
theorem hout0 (c : Dev nD) :
    (dat0 V c).Φ (Fin.last cfg0.N) ⊢ iprop(Pipeline.scopedRest (Ix := Unit) (Name := ℕ) (U := UU nD τ) (Lvl := ℕ) (Val := Elt F) spec0 c ∗ ∃ r, prngReg c r) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 24 := N_0; omega), scoped0]
  iintro ⟨HS, Hr, Hg⟩
  isplitl [HS Hr]
  · isplitl [HS]; · iexists _; iexact HS
    iexact Hr
  iexact Hg

end Cert.Kernel.Hand

end
-- ==== Proof.DwRegion.lean ====
module

public import proofs.«01_k».proof.Proof.AmaxRegion
public import Idealize.ShloMosaic.Lib.Pipeline.RegionArraysD
public import Idealize.ShloMosaic.Lib.Pipeline.TableIdle
public import Idealize.ShloMosaic.Lib.Pipeline.TalkSched

/-! # The weight-gradient call as a region

What the output tile's buffer holds after each of the 96 points (`acc1`), the state of the transfer of the old tile
between the points, the region's proof data, and the body's obligation from the six triples. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The old weight gradient as the region finds it. -/
abbrev XA1 (c : Dev nD) : Buf (Elt F) (dwM.view.loc (c : Thread nD τ)) := V c (Proc.devRef .tc main_arg3)

/-- The tile's row and column at point `n`. -/
def tp (n : ℕ) : Fin 2 := ⟨n / 48 % 2, Nat.mod_lt _ (by decide)⟩
def tq (n : ℕ) : Fin 2 := ⟨n / 24 % 2, Nat.mod_lt _ (by decide)⟩

/-- One row block's product, added to `s`. -/
def step1 (c : Dev nD) (t : Fin cfg1.N) (s : Vec F S1792x1792 .f32) : Vec F S1792x1792 .f32 :=
  k1_pay3 (iblk1 V c 2 t) (fac0 (iblk1 V c 0 t)) s (iblk1 V c 1 t)

/-- The accumulator after point `n`: the products of the tile's row blocks so far. -/
def acc1 (c : Dev nD) : (n : ℕ) → n < cfg1.N → Vec F S1792x1792 .f32
  | 0, h => step1 V c ⟨0, h⟩ (k1_pay1 (F := F))
  | n + 1, h => step1 V c ⟨n + 1, h⟩ (if (n + 1) % 24 = 0 then k1_pay1 (F := F) else acc1 c n (Nat.lt_of_succ_lt h))

theorem acc1_first (c : Dev nD) (t : Fin cfg1.N) (hz : t.val % 24 = 0) :
    acc1 V c t.val t.isLt = step1 V c t (k1_pay1 (F := F)) := by
  obtain ⟨n, hn⟩ := t
  cases n with
  | zero => rfl
  | succ n => show step1 V c _ (if (n + 1) % 24 = 0 then _ else _) = _; rw [if_pos hz]

theorem acc1_next (c : Dev nD) (t : Fin cfg1.N) (hz : t.val % 24 ≠ 0) :
    acc1 V c t.val t.isLt = step1 V c t (acc1 V c (t.val - 1) (by omega)) := by
  obtain ⟨n, hn⟩ := t
  cases n with
  | zero => exact absurd rfl hz
  | succ n => show step1 V c _ (if (n + 1) % 24 = 0 then _ else _) = _; rw [if_neg hz]; rfl

/-- What the output tile's buffer holds after point `t`. -/
def out3 (c : Dev nD) (t : Fin cfg1.N) : Vec F S1792x1792 .f32 :=
  if t.val % 24 = 23 then
    k1_pay4 ((tile (tp t.val) (tq t.val)).view.read (Elt F) (XA1 V c)) (acc1 V c t.val t.isLt) (fac1 (iblk1 V c 0 t))
  else acc1 V c t.val t.isLt

/-- The point whose codes the codes' buffer holds after point `t`. -/
def codePt (t : Fin cfg1.N) : Fin cfg1.N := ⟨min t.val 47, lt_of_le_of_lt (min_le_left _ _) t.isLt⟩

/-- The codes of point `t`'s block. -/
def codes (c : Dev nD) (t : Fin cfg1.N) : Vec F S1024x1792 .fp8e5m2 := k1_pay2 (iblk1 V c 2 t) (fac0 (iblk1 V c 0 t))

/-- The core's scoped buffers that this call does not use: the other call's. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_scratch0), ((c : Thread nD τ).loc cc0_scratch0) ↦{fullShare} f))

theorem bufP_whole (c : Dev nD) (f : Buf (Elt F) (bufM.view.loc (c : Thread nD τ))) :
    (bufP c f : sProp 𝕄) = (((c : Thread nD τ).loc cc1_scratch0) ↦{fullShare} f) := by
  unfold bufP; simp only [bufM, Memref.view_whole, View.set_whole]

theorem scoped1_out (c : Dev nD) :
    iprop(rest1 c ∗ (∃ f, bufP c f)) ⊢ (Pipeline.scopedRest (Ix := Unit) (Name := ℕ) (U := UU nD τ) (Lvl := ℕ) (Val := Elt F) spec1 c : sProp 𝕄) := by
  rw [scopedRest1_eq]; unfold rest1; simp only [bufP_whole]
  iintro ⟨⟨H1, H2, H3, H4⟩, H5⟩
  isplitl [H1]; · iexact H1
  isplitl [H2]; · iexact H2
  isplitl [H3]; · iexact H3
  isplitl [H4]; · iexact H4
  iexact H5

theorem scoped1_in (c : Dev nD) :
    (Pipeline.scopedRest (Ix := Unit) (Name := ℕ) (U := UU nD τ) (Lvl := ℕ) (Val := Elt F) spec1 c : sProp 𝕄) ⊢ iprop(rest1 c ∗ (∃ f, bufP c f)) := by
  rw [scopedRest1_eq]; unfold rest1; simp only [bufP_whole]
  iintro ⟨H1, H2, H3, H4, H5⟩
  isplitr [H5]
  · isplitl [H1]; · iexact H1
    isplitl [H2]; · iexact H2
    isplitl [H3]; · iexact H3
    iexact H4
  iexact H5

/-- The old weight gradient, whole. -/
abbrev dwP (c : Dev nD) : sProp 𝕄 := ((c : Thread nD τ).loc main_arg3) ↦{fullShare} XA1 V c
/-- The old weight gradient off tile `(p, q)`. -/
def offP (c : Dev nD) (p q : Fin 2) : sProp 𝕄 :=
  dwM.view.loc (c : Thread nD τ) ↦[Finset.univ \ (tile p q).view.set]{fullShare} XA1 V c

theorem dw_split (c : Dev nD) (p q : Fin 2) : dwP V c ⊢ iprop(tileP c (XA1 V c) p q ∗ offP V c p q) :=
  (pointsTo_split_subset (Finset.subset_univ (tile p q).view.set)).1
theorem dw_join (c : Dev nD) (p q : Fin 2) : iprop(tileP c (XA1 V c) p q ∗ offP V c p q) ⊢ dwP V c :=
  (pointsTo_split_subset (Finset.subset_univ (tile p q).view.set)).2

/-- The transfer between points, before point `n`: before a tile's first row block the array is whole, the buffer
    free and the semaphore at zero; before the others the tile is on its way. -/
def mid1 (c : Dev nD) (n : ℕ) : sProp 𝕄 :=
  if n % 24 = 0 then iprop(dwP V c ∗ (∃ f, bufP c f) ∗ cellP c)
  else iprop((∃ f, flightP c (XA1 V c) (tp n) (tq n) f) ∗ offP V c (tp n) (tq n))

/-- The invariant before point `n`. -/
def Phi1 (c : Dev nD) (n : ℕ) (_ : n ≤ cfg1.N) : sProp 𝕄 :=
  iprop(mid1 V c n ∗ rest1 c ∗ ∃ r, prngReg c r)

/-- The region's proof data on core `c`. -/
def dat1 (c : Dev nD) : Dat τ (Elt F) Unit ℕ (UU nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => out3 V c t
    | ⟨4, _⟩ => codes V c (codePt t)
  Φ t := Phi1 V c t.val (Nat.le_of_lt_succ t.isLt)
  q _ := fullShare
  owed _ := 0

theorem A1_eq (c : Dev nD) (w : Fin cfg1.W) : (dat1 V c).A w = V c (Proc.devRef .tc (Pipeline.arrRef spec1 w)) := by
  dsimp only [dat1]
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3 V c t := by dsimp only [dat1]
theorem after1_4 (c : Dev nD) (t : Fin cfg1.N) : (dat1 V c).after 4 t = codes V c (codePt t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A1_eq]; try rfl) t d).trans
    (by unfold Dat.fetched Dat.blockOf iblk1; rw [A1_eq]; try rfl)

/-! ## The body's conditions over the grid -/

theorem hcond1_1 : ∀ t : Fin cfg1.N, k1_cond1 (grid1.coords t) = 1#1 ↔ t.val % 24 = 0 :=
  (by decide +kernel : ∀ t : Fin grid1.N, k1_cond1 (grid1.coords t) = 1#1 ↔ t.val % 24 = 0)
theorem hcond1_2 : ∀ t : Fin cfg1.N, k1_cond2 (grid1.coords t) = 1#1 ↔ t.val < 48 :=
  (by decide +kernel : ∀ t : Fin grid1.N, k1_cond2 (grid1.coords t) = 1#1 ↔ t.val < 48)
theorem hcond1_3 : ∀ t : Fin cfg1.N, k1_cond3 (grid1.coords t) = 1#1 ↔ t.val % 24 = 23 :=
  (by decide +kernel : ∀ t : Fin grid1.N, k1_cond3 (grid1.coords t) = 1#1 ↔ t.val % 24 = 23)
theorem hcoord0 : ∀ t : Fin cfg1.N, (grid1.coords t 0 : Fin 2) = tp t.val :=
  fun t => Fin.ext ((by decide +kernel : ∀ t : Fin grid1.N, (grid1.coords t 0).val = (tp t.val).val) t)
theorem hcoord1 : ∀ t : Fin cfg1.N, (grid1.coords t 1 : Fin 2) = tq t.val :=
  fun t => Fin.ext ((by decide +kernel : ∀ t : Fin grid1.N, (grid1.coords t 1).val = (tq t.val).val) t)
theorem idleAt1_4 : ∀ t : Fin cfg1.N, 48 ≤ t.val → cfg1.idle 4 (grid1.coords t) = true := by decide +kernel
theorem liveAt1_4 : ∀ t : Fin cfg1.N, t.val < 48 → cfg1.idle 4 (grid1.coords t) = false := by decide +kernel
theorem noFlush1_4 : ∀ t : Fin cfg1.N, 48 ≤ t.val → t.val ≠ 95 → (cfg1.win 4).flush t = false := by decide +kernel
theorem flush1_4_last : ∀ t : Fin cfg1.N, t.val = 95 → (cfg1.win 4).flush t = true := by decide +kernel
theorem fresh1_4 : cfg1.fresh 4 95 = false := by decide +kernel
theorem noFlush1_3 (t : Fin cfg1.N) (h : t.val % 24 ≠ 23) : (cfg1.win 3).flush t = false := by
  cases hf : (cfg1.win 3).flush t with
  | false => rfl
  | true => exact absurd ((flush1_3 t).mp hf) h

theorem tp_succ (n : ℕ) (h : (n + 1) % 24 ≠ 0) : tp (n + 1) = tp n := Fin.ext (by unfold tp; dsimp only; omega)
theorem tq_succ (n : ℕ) (h : (n + 1) % 24 ≠ 0) : tq (n + 1) = tq n := Fin.ext (by unfold tq; dsimp only; omega)

/-- Past the first row block the output tile's buffer holds the accumulator. -/
theorem before1_3 (c : Dev nD) (t : Fin cfg1.N) (hz : t.val % 24 ≠ 0) (d) :
    (dat1 V c).before 3 t d = acc1 V c (t.val - 1) (by omega) := by
  rw [(dat1 V c).before_out_kept 3 rfl t (by omega) (noFlush1_3 _ (by show (t.val - 1) % 24 ≠ 23; omega)) (fun _ => rfl) (fun _ _ => rfl) d, after1_3]
  unfold out3
  rw [if_neg (by show ¬(t.val - 1) % 24 = 23; omega)]

/-- At the last point the codes' buffer holds what the second tile row's start left there. -/
theorem before1_4 (c : Dev nD) (t : Fin cfg1.N) (hz : t.val = 95) (d) :
    (dat1 V c).before 4 t d = codes V c (codePt t) := by
  rw [(dat1 V c).before_out_traj 4 rfl (fun _ _ => rfl) (fun t ht hi _ => by
    rw [after1_4, after1_4]
    refine congrArg (codes V c) (Fin.ext ?_)
    unfold codePt; dsimp only
    by_cases hlt : t.val < 48
    · rw [liveAt1_4 t hlt] at hi; exact absurd hi Bool.false_ne_true
    · omega) t.val t rfl d]
  rw [show cfg1.fresh 4 t.val = false from by rw [hz]; exact fresh1_4, if_neg Bool.false_ne_true, after1_4]
  refine congrArg (codes V c) (Fin.ext ?_)
  unfold codePt; dsimp only; omega

/-! ## The body's obligation -/

abbrev ms1_0 (t : Fin cfg1.N) : Memref sig .tc .smem S2 .f32 := win1_0.stage (cfg1.slots t 0)
abbrev ms1_1 (t : Fin cfg1.N) : Memref sig .tc .vmem S1024x1792 .fp8e4m3 := win1_1.stage (cfg1.slots t 1)
abbrev ms1_2 (t : Fin cfg1.N) : Memref sig .tc .vmem S1024x1792 .bf16 := win1_2.stage (cfg1.slots t 2)
abbrev ms1_3 (t : Fin cfg1.N) : Memref sig .tc .vmem S1792x1792 .f32 := win1_3.stage (cfg1.slots t 3)
abbrev ms1_4 (t : Fin cfg1.N) : Memref sig .tc .vmem S1024x1792 .fp8e5m2 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3 (c : Dev nD) (t : Fin cfg1.N) :
    (dat1 V c).leavesExact 3 t = owns (c : Thread nD τ) (ms1_3 t) fullShare (out3 V c t) := by
  rw [← after1_3]
theorem leaves1_4_live (c : Dev nD) (t : Fin cfg1.N) (h : t.val < 48) :
    (dat1 V c).leavesExact 4 t = owns (c : Thread nD τ) (ms1_4 t) fullShare (codes V c t) := by
  rw [show codes V c t = (dat1 V c).after 4 t from by
    rw [after1_4]; refine congrArg (codes V c) (Fin.ext ?_); unfold codePt; dsimp only; omega]
  unfold Dat.leavesExact; rw [liveAt1_4 t h]
/-- Where no codes are stored, what the body found is what the point leaves. -/
theorem leaves1_4_idle (c : Dev nD) (t : Fin cfg1.N) (h : 48 ≤ t.val) :
    iprop(∃ d, owns (c : Thread nD τ) (ms1_4 t) fullShare ((dat1 V c).before 4 t d)) ⊢ (dat1 V c).leavesExact 4 t := by
  by_cases h95 : t.val = 95
  · rw [show (dat1 V c).leavesExact 4 t = owns (c : Thread nD τ) (ms1_4 t) fullShare ((dat1 V c).after 4 t) from by
      unfold Dat.leavesExact; rw [idleAt1_4 t h, flush1_4_last t h95], after1_4]
    simp only [before1_4 V c t h95]
    iintro ⟨%d, H⟩; iexact H
  · rw [Dat.leavesExact_idle (dat1 V c) 4 t (idleAt1_4 t h) (noFlush1_4 t h h95)]

theorem mid1_zero (c : Dev nD) (n : ℕ) (h : n % 24 = 0) :
    mid1 V c n = iprop(dwP V c ∗ (∃ f, bufP c f) ∗ cellP c) := if_pos h
theorem mid1_pos (c : Dev nD) (n : ℕ) (h : n % 24 ≠ 0) :
    mid1 V c n = iprop((∃ f, flightP c (XA1 V c) (tp n) (tq n) f) ∗ offP V c (tp n) (tq n)) := if_neg h

theorem owes_out1 (c : Dev nD) (t : Fin (cfg1.N + 1)) : (dat1 V c).owesAt () t ⊢ iprop(∃ W, owes (c : Thread nD τ) 0 W) :=
  TalkSites.owesAt_elim (dat1 V c) () t 0 rfl
theorem owes_in1 (c : Dev nD) (t : Fin (cfg1.N + 1)) : iprop(∃ W, owes (c : Thread nD τ) 0 W) ⊢ (dat1 V c).owesAt () t := by
  iintro ⟨%W, H⟩; iapply (TalkSites.owesAt_intro (dat1 V c) () t 0 rfl rfl W); iexact H

set_option maxHeartbeats 4800000 in
/-- The body at a tile's first row block. -/
theorem sound_first (c : Dev nD) (t : Fin cfg1.N) (hz : t.val % 24 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [leaves1_0, leaves1_1, leaves1_2, leaves1_3, Phi1_castSucc,
    show (dat1 V c).Φ t.succ = Phi1 V c (t.val + 1) t.isLt from rfl]
  unfold Phi1
  have h23 : t.val % 24 ≠ 23 := by omega
  have h1 : (t.val + 1) % 24 ≠ 0 := by omega
  rw [mid1_zero V c _ hz, mid1_pos V c _ h1, tp_succ _ h1, tq_succ _ h1]
  rw [show out3 V c t = step1 V c t (k1_pay1 (F := F)) from by unfold out3; rw [if_neg h23, acc1_first V c t hz]]
  unfold step1
  by_cases h48 : t.val < 48
  · rw [leaves1_4_live V c t h48]; unfold codes
    iintro ⟨⟨⟨HD, HB, HC⟩, Hr, Hg⟩, Ho, ⟨%d0, H0⟩, ⟨%d1, H1⟩, ⟨%d2, H2⟩, ⟨%d3, H3⟩, ⟨%d4, H4⟩⟩
    ihave HD' := (dw_split V c (tp t.val) (tq t.val)) $$ HD
    icases HD' with ⟨HT, HF⟩
    ihave Ho' := (owes_out1 V c _) $$ Ho
    iapply (dw_first_codes c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      ((hcond1_1 t).mpr hz) ((hcond1_2 t).mpr h48) (fun h => h23 ((hcond1_3 t).mp h)) (iblk1 V c 0 t) (iblk1 V c 1 t) (iblk1 V c 2 t) _)
    rw [hcoord0 t, hcoord1 t]
    isplitl [H0]; · iexact H0
    isplitl [H1]; · iexact H1
    isplitl [H2]; · iexact H2
    isplitl [H3]; · iexists _; iexact H3
    isplitl [H4]; · iexists _; iexact H4
    isplitl [HT]; · iexact HT
    isplitl [HB]; · iexact HB
    isplitl [HC]; · iexact HC
    isplitl [Ho']; · iexact Ho'
    iintro ⟨H0, H1, H2, H3, H4, HFl, Ho⟩
    ihave Ho' := (owes_in1 V c t.succ) $$ Ho
    isplitl [HFl HF Hr Hg]
    · isplitl [HFl HF]
      · isplitl [HFl]; · iexact HFl
        iexact HF
      isplitl [Hr]; · iexact Hr
      iexact Hg
    isplitl [Ho']; · iexact Ho'
    isplitl [H0]; · iexact H0
    isplitl [H1]; · iexact H1
    isplitl [H2]; · iexact H2
    isplitl [H3]; · iexact H3
    iexact H4
  · iintro ⟨⟨⟨HD, HB, HC⟩, Hr, Hg⟩, Ho, ⟨%d0, H0⟩, ⟨%d1, H1⟩, ⟨%d2, H2⟩, ⟨%d3, H3⟩, H4⟩
    ihave HD' := (dw_split V c (tp t.val) (tq t.val)) $$ HD
    icases HD' with ⟨HT, HF⟩
    ihave Ho' := (owes_out1 V c _) $$ Ho
    iapply (dw_first c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      ((hcond1_1 t).mpr hz) (fun h => h48 ((hcond1_2 t).mp h)) (fun h => h23 ((hcond1_3 t).mp h)) (iblk1 V c 0 t) (iblk1 V c 1 t) (iblk1 V c 2 t) _)
    rw [hcoord0 t, hcoord1 t]
    isplitl [H0]; · iexact H0
    isplitl [H1]; · iexact H1
    isplitl [H2]; · iexact H2
    isplitl [H3]; · iexists _; iexact H3
    isplitl [HT]; · iexact HT
    isplitl [HB]; · iexact HB
    isplitl [HC]; · iexact HC
    isplitl [Ho']; · iexact Ho'
    iintro ⟨H0, H1, H2, H3, HFl, Ho⟩
    ihave Ho' := (owes_in1 V c t.succ) $$ Ho
    ihave H4' := (leaves1_4_idle V c t (by omega)) $$ H4
    isplitl [HFl HF Hr Hg]
    · isplitl [HFl HF]
      · isplitl [HFl]; · iexact HFl
        iexact HF
      isplitl [Hr]; · iexact Hr
      iexact Hg
    isplitl [Ho']; · iexact Ho'
    isplitl [H0]; · iexact H0
    isplitl [H1]; · iexact H1
    isplitl [H2]; · iexact H2
    isplitl [H3]; · iexact H3
    iexact H4'

set_option maxHeartbeats 4800000 in
/-- The body at a row block between. -/
theorem sound_mid (c : Dev nD) (t : Fin cfg1.N) (hz : t.val % 24 ≠ 0) (h23 : t.val % 24 ≠ 23) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3 V c t hz]
  rw [leaves1_0, leaves1_1, leaves1_2, leaves1_3, Phi1_castSucc,
    show (dat1 V c).Φ t.succ = Phi1 V c (t.val + 1) t.isLt from rfl]
  rw [show (dat1 V c).owesAt () t.succ = (dat1 V c).owesAt () t.castSucc from rfl]
  unfold Phi1
  have h1 : (t.val + 1) % 24 ≠ 0 := by omega
  rw [mid1_pos V c _ hz, mid1_pos V c _ h1, tp_succ _ h1, tq_succ _ h1]
  rw [show out3 V c t = step1 V c t (acc1 V c (t.val - 1) (by omega)) from by unfold out3; rw [if_neg h23, acc1_next V c t hz]]
  unfold step1
  by_cases h48 : t.val < 48
  · rw [leaves1_4_live V c t h48]; unfold codes
    iintro ⟨HΦ, Ho, ⟨%d0, H0⟩, ⟨%d1, H1⟩, ⟨%d2, H2⟩, ⟨%d3, H3⟩, ⟨%d4, H4⟩⟩
    iapply (dw_mid_codes c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) ((hcond1_2 t).mpr h48) (fun h => h23 ((hcond1_3 t).mp h)) (iblk1 V c 0 t) (iblk1 V c 1 t) (iblk1 V c 2 t)
      (acc1 V c (t.val - 1) (by omega)) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, H4⟩
    iapply (dw_mid c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) (fun h => h48 ((hcond1_2 t).mp h)) (fun h => h23 ((hcond1_3 t).mp h)) (iblk1 V c 0 t) (iblk1 V c 1 t) (iblk1 V c 2 t)
      (acc1 V c (t.val - 1) (by omega)) _)
    isplitl [H0]; · iexact H0
    isplitl [H1]; · iexact H1
    isplitl [H2]; · iexact H2
    isplitl [H3]; · iexact H3
    iintro ⟨H0, H1, H2, H3⟩
    ihave H4' := (leaves1_4_idle V c t (by omega)) $$ H4
    isplitl [HΦ]; · iexact HΦ
    isplitl [Ho]; · iexact Ho
    isplitl [H0]; · iexact H0
    isplitl [H1]; · iexact H1
    isplitl [H2]; · iexact H2
    isplitl [H3]; · iexact H3
    iexact H4'

set_option maxHeartbeats 4800000 in
/-- The body at a tile's last row block. -/
theorem sound_last (c : Dev nD) (t : Fin cfg1.N) (h23 : t.val % 24 = 23) :
    bodyPre1 V c t ⊢ wp frame (wpE (defs₀ (F := F)) Variants.none c none) Set.univ (bodyAt1 t) (fun _ => bodyPost1 V c t) := by
  have hz : t.val % 24 ≠ 0 := by omega
  unfold bodyPre1 bodyPost1 bodyAt1
  simp only [before1_0, before1_1, before1_2, before1_3 V c t hz]
  rw [leaves1_0, leaves1_1, leaves1_2, leaves1_3, Phi1_castSucc,
    show (dat1 V c).Φ t.succ = Phi1 V c (t.val + 1) t.isLt from rfl]
  unfold Phi1
  have h1 : (t.val + 1) % 24 = 0 := by omega
  rw [mid1_pos V c _ hz, mid1_zero V c _ h1]
  rw [show out3 V c t = k1_pay4 ((tile (tp t.val) (tq t.val)).view.read (Elt F) (XA1 V c)) (step1 V c t (acc1 V c (t.val - 1) (by omega))) (fac1 (iblk1 V c 0 t)) from by
    unfold out3; rw [if_pos h23, acc1_next V c t hz]]
  unfold step1
  by_cases h48 : t.val < 48
  · rw [leaves1_4_live V c t h48]; unfold codes
    iintro ⟨⟨⟨HFl, HF⟩, Hr, Hg⟩, Ho, ⟨%d0, H0⟩, ⟨%d1, H1⟩, ⟨%d2, H2⟩, ⟨%d3, H3⟩, ⟨%d4, H4⟩⟩
    ihave Ho' := (owes_out1 V c _) $$ Ho
    iapply (dw_last_codes c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) ((hcond1_2 t).mpr h48) ((hcond1_3 t).mpr h23) (iblk1 V c 0 t) (iblk1 V c 1 t) (iblk1 V c 2 t)
      (acc1 V c (t.val - 1) (by omega)) _)
    rw [hcoord0 t, hcoord1 t]
    isplitl [H0]; · iexact H0
    isplitl [H1]; · iexact H1
    isplitl [H2]; · iexact H2
    isplitl [H3]; · iexact H3
    isplitl [H4]; · iexists _; iexact H4
    isplitl [HFl]; · iexact HFl
    isplitl [Ho']; · iexact Ho'
    iintro ⟨H0, H1, H2, H3, H4, HT, HB, HC, Ho⟩
    ihave Ho' := (owes_in1 V c t.succ) $$ Ho
    ihave HD := (dw_join V c (tp t.val) (tq t.val)) $$ [HT HF]
    · isplitl [HT] <;> iassumption
    isplitl [HD HB HC Hr Hg]
    · isplitl [HD HB HC]
      · isplitl [HD]; · iexact HD
        isplitl [HB]; · iexact HB
        iexact HC
      isplitl [Hr]; · iexact Hr
      iexact Hg
    isplitl [Ho']; · iexact Ho'
    isplitl [H0]; · iexact H0
    isplitl [H1]; · iexact H1
    isplitl [H2]; · iexact H2
    isplitl [H3]; · iexact H3
    iexact H4
  · iintro ⟨⟨⟨HFl, HF⟩, Hr, Hg⟩, Ho, ⟨%d0, H0⟩, ⟨%d1, H1⟩, ⟨%d2, H2⟩, ⟨%d3, H3⟩, H4⟩
    ihave Ho' := (owes_out1 V c _) $$ Ho
    iapply (dw_last c (XA1 V c) (grid1.coords t) (ms1_0 t) (hstage1_0 ((cfg1.slots t 0).cast nbuf1_0)) (ms1_1 t) (hstage1_1 ((cfg1.slots t 1).cast nbuf1_1))
      (ms1_2 t) (hstage1_2 ((cfg1.slots t 2).cast nbuf1_2)) (ms1_3 t) (hstage1_3 ((cfg1.slots t 3).cast nbuf1_3)) (ms1_4 t) (hstage1_4 ((cfg1.slots t 4).cast nbuf1_4))
      (fun h => hz ((hcond1_1 t).mp h)) (fun h => h48 ((hcond1_2 t).mp h)) ((hcond1_3 t).mpr h23) (iblk1 V c 0 t) (iblk1 V c 1 t) (iblk1 V c 2 t)
      (acc1 V c (t.val - 1) (by omega)) _)
    rw [hcoord0 t, hcoord1 t]
    isplitl [H0]; · iexact H0
    isplitl [H1]; · iexact H1
    isplitl [H2]; · iexact H2
    isplitl [H3]; · iexact H3
    isplitl [HFl]; · iexact HFl
    isplitl [Ho']; · iexact Ho'
    iintro ⟨H0, H1, H2, H3, HT, HB, HC, Ho⟩
    ihave Ho' := (owes_in1 V c t.succ) $$ Ho
    ihave HD := (dw_join V c (tp t.val) (tq t.val)) $$ [HT HF]
    · isplitl [HT] <;> iassumption
    ihave H4' := (leaves1_4_idle V c t (by omega)) $$ H4
    isplitl [HD HB HC Hr Hg]
    · isplitl [HD HB HC]
      · isplitl [HD]; · iexact HD
        isplitl [HB]; · iexact HB
        iexact HC
      isplitl [Hr]; · iexact Hr
      iexact Hg
    isplitl [Ho']; · iexact Ho'
    isplitl [H0]; · iexact H0
    isplitl [H1]; · iexact H1
    isplitl [H2]; · iexact H2
    isplitl [H3]; · iexact H3
    iexact H4'

theorem sound_body1 (c : Dev nD) (t : Fin cfg1.N) :
    bodyPre1 V c t ⊢ wp frame (wpE (defs₀ (F := F)) Variants.none c none) Set.univ (bodyAt1 t) (fun _ => bodyPost1 V c t) := by
  by_cases hz : t.val % 24 = 0
  · exact sound_first V c t hz
  · by_cases h23 : t.val % 24 = 23
    · exact sound_last V c t h23
    · exact sound_mid V c t hz h23

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- The call's own semaphore. -/
abbrev osem1 : Fin 1 → SemLoc sig := fun _ => .dma cc1_scratch1.sem
theorem ownSemFacts1 : Pipeline.OwnSemFacts spec1 osem1 := by decide
theorem ownSems1_eq (c : Dev nD) :
    (Pipeline.ownSems0 (Ix := Unit) (Name := ℕ) (U := UU nD τ) (Lvl := ℕ) (Val := Elt F) (τ := τ) osem1 c : sProp 𝕄) = cellP c := by
  unfold Pipeline.ownSems0; rw [Finset.univ_unique, bigSep_singleton]

/-- The invariant's first state, -/
theorem hin1 (c : Dev nD) :
    iprop(Pipeline.scopedRest (Ix := Unit) (Name := ℕ) (U := UU nD τ) (Lvl := ℕ) (Val := Elt F) spec1 c ∗ (∃ r, prngReg c r)
      ∗ Pipeline.ownSems0 osem1 c ∗ (bigSep {main_arg3} fun b => ((c.tc : Thread nD τ).loc b) ↦{fullShare} V c (Proc.devRef .tc b))
      ∗ Transfers.MayWaits (c : Thread nD τ) () 0) ⊢ (dat1 V c).Φ 0 := by
  rw [show (dat1 V c).Φ 0 = Phi1 V c 0 (Nat.zero_le _) from rfl, ownSems1_eq, bigSep_singleton]
  unfold Phi1; rw [mid1_zero V c 0 rfl]
  iintro ⟨HS, Hg, HC, HD, -⟩
  ihave HS' := (scoped1_in c) $$ HS
  icases HS' with ⟨Hr, HB⟩
  isplitl [HD HB HC]
  · isplitl [HD]; · iexact HD
    isplitl [HB]; · iexact HB
    iexact HC
  isplitl [Hr]; · iexact Hr
  iexact Hg

/-- and what its last state gives back. -/
theorem hout1 (c : Dev nD) :
    (dat1 V c).Φ (Fin.last cfg1.N) ⊢
    iprop(Pipeline.scopedRest (Ix := Unit) (Name := ℕ) (U := UU nD τ) (Lvl := ℕ) (Val := Elt F) spec1 c ∗ (∃ r, prngReg c r)
      ∗ Pipeline.ownSems0 osem1 c ∗ (bigSep {main_arg3} fun b => ((c.tc : Thread nD τ).loc b) ↦{fullShare} V c (Proc.devRef .tc b))) := by
  rw [show (dat1 V c).Φ (Fin.last cfg1.N) = Phi1 V c (Fin.last cfg1.N).val (Nat.le_of_lt_succ (Fin.last cfg1.N).isLt) from rfl, ownSems1_eq, bigSep_singleton]
  unfold Phi1; rw [mid1_zero V c _ (by rw [Fin.val_last]; have : cfg1.N = 96 := N_1; omega)]
  iintro ⟨⟨HD, HB, HC⟩, Hr, Hg⟩
  isplitl [Hr HB]
  · iapply (scoped1_out c); isplitl [Hr] <;> iassumption
  isplitl [Hg]; · iexact Hg
  isplitl [HC]; · iexact HC
  iexact HD

end Cert.Kernel.Hand

end
-- ==== Proof.Launch.lean ====
module

public import proofs.«01_k».proof.Proof.DwRegion

/-! # The whole program run

The two regions' segment records between the host lines, and the run: every unscoped buffer ends at the last
valuation, every semaphore counter at zero. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ)

/-- What the first call leaves. -/
def outsA : Outs (F := F) := fun _ r c => Pipeline.afterRegion (dat0 (V1 m) c) (V1 m c) (Proc.devRef .tc r)
/-- What the calls leave: the first over the launch contents, the second over what precedes it. -/
def outs : Outs (F := F) := fun k r c =>
  if k = 12 then Pipeline.afterRegion (dat1 (V11 m (outsA m)) c) (V11 m (outsA m) c) (Proc.devRef .tc r) else outsA m k r c

theorem V2_outs (c : Dev nD) : V2 m (outs m) c = V2 m (outsA m) c := rfl
theorem V11_outs (c : Dev nD) : V11 m (outs m) c = V11 m (outsA m) c := rfl

/-- Both calls' proof data. -/
def pdats : (p : Fin 2) → (c : Dev nD) → Dat τ (Elt F) Unit ℕ (UU nD τ) ℕ (cfgs p) c
  | ⟨0, _⟩ => fun c => dat0 (V1 m) c
  | ⟨1, _⟩ => fun c => dat1 (V11 m (outs m)) c

/-- Every cell of a TensorCore at level zero. -/
def Lall (g : GSem nD τ sig) : Finset Unit := if g.1.2 = .tc then {()} else ∅
def lv0 (_ : GSem nD τ sig) (_ : Unit) : ℕ := 0
theorem hLall : ∀ g : GSem nD τ sig, g.1.2 ≠ .tc → Lall g = ∅ := fun g h => if_neg h
theorem mem_Lall (c : Dev nD) (s : SemLoc sig) : () ∈ Lall ((c : Thread nD τ), s) := by
  unfold Lall; rw [if_pos rfl]; exact Finset.mem_singleton_self _

/-- The rest of a core's state between two items: it owes nothing, and holds the generator's register. -/
def EE (k : Fin 3) (c : Dev nD) : sProp 𝕄 :=
  iprop((∃ W, owes (c : Thread nD τ) (0 : CellTallies nD τ sig Unit) W) ∗ ∃ r, prngReg c r)

theorem cut0 : Pipeline.LevelCut (pcfgs (F := F)) adm () Lall lv0 0 (fun _ : Dev nD => (0 : CellTallies nD τ sig Unit)) (fun _ => 0) :=
  ⟨fun c _ _ => mem_Lall c _, fun _ _ _ => le_refl _, fun c g i h => absurd h (lt_irrefl _)⟩
theorem cut1 : Pipeline.LevelCut (pcfgs (F := F)) adm () Lall lv0 1 (fun _ : Dev nD => (0 : CellTallies nD τ sig Unit)) (fun _ => 0) :=
  ⟨fun c _ _ => mem_Lall c _, fun _ _ _ => le_refl _, fun c g i h => absurd h (lt_irrefl _)⟩

/-! ## The first call's record -/

def R0 : RegionSeg (pcfgs (F := F)) adm (pdats m) () defs₀ Variants.none Lall lv0 0 :=
  Pipeline.RegionSeg.ofHeldIn (pcfgs (F := F)) adm (pdats m) () defs₀ Variants.none Lall lv0 0 (fun _ => 0) (Pipeline.ucRefs τ sig)
    (fun c => iprop(∃ r, prngReg c r)) (fun c => iprop(∃ r, prngReg c r)) launch0.toP rfl
    (fun c => (body_obligation0 (V1 m) c).loose) (fun _ _ => rfl) (fun _ => rfl) (fun c => (dat0 (V1 m) c).share_full fun _ => rfl)
    (fun c => hin0 (V1 m) c) (fun c => hout0 (V1 m) c) (fun _ => 0) cut0 (fun _ => BI.emp) (V1 m) (fun c w => A0_eq (V1 m) c w)

theorem sub0 : Pipeline.arrRefs (τ := τ) (pcfgs (F := F) 0).spec ⊆ Pipeline.ucRefs τ sig :=
  Pipeline.arrRefs_sub_ucRefs spec0 (by decide)
theorem sub1 : Pipeline.arrRefs (τ := τ) (pcfgs (F := F) 1).spec ⊆ Pipeline.ucRefs τ sig :=
  Pipeline.arrRefs_sub_ucRefs spec1 (by decide)

theorem hpre0 (c : Dev nD) : iprop(StableHlo.held (c : Thread nD τ) (Pipeline.ucRefs τ sig) (V1 m c) ∗ EE 0 c) ⊢ (R0 m).pre c := by
  refine BI.BIBase.Entails.trans ?_ (Pipeline.RegionSeg.ofHeldIn_pre sub0 c)
  unfold EE
  iintro ⟨H, HO, Hg⟩
  isplitl [H]; · iexact H
  isplitl [HO]; · iexact HO
  isplitl [Hg]; · iexact Hg
  iempintro

theorem after0_V2 (c : Dev nD) : ∀ b ∈ Pipeline.ucRefs τ sig, Pipeline.afterRegion (dat0 (V1 m) c) (V1 m c) b = V2 m (outs m) c b := by
  intro b hb
  obtain ⟨r, -, rfl⟩ := Finset.mem_map.mp (Finset.mem_filter.mp hb).1
  by_cases hr : r = main_v2
  · subst hr
    exact (Function.update_self (f := V1 m c) (Proc.devRef .tc main_v2) (outs m 2 main_v2 c)).symm
  · refine (Pipeline.afterRegion_keeps (dat0 (V1 m) c) (V1 m c) launch0.win.arr_inj (A0_eq (V1 m) c) r ?_).trans
      (Function.update_of_ne (fun h => hr (Proc.devRef_injective _ h)) _ _).symm
    intro w hw
    match w, hw with
    | ⟨0, _⟩, _ => rfl
    | ⟨1, _⟩, hw => exact absurd hw.symm hr

theorem hpost0 (c : Dev nD) : (R0 m).post c ⊢ iprop(StableHlo.held (c : Thread nD τ) (Pipeline.ucRefs τ sig) (V2 m (outs m) c) ∗ EE 1 c) := by
  refine BI.BIBase.Entails.trans (Pipeline.RegionSeg.ofHeldIn_post sub0 c) ?_
  rw [← StableHlo.held_congr (c : Thread nD τ) (after0_V2 m c)]
  unfold EE
  iintro ⟨H, HO, Hg, -⟩
  isplitl [H]; · iexact H
  isplitl [HO]; · iexact HO
  iexact Hg

/-! ## The second call's record -/

/-- The unscoped buffers that are no window's array of the second call. -/
abbrev Sr1 : Finset (DevRef τ sig) := Pipeline.ucRefs τ sig \ Pipeline.arrRefs (pcfgs (F := F) 1).spec

theorem hHS1 : Pipeline.hbmRefs (τ := τ) {main_arg3} ⊆ Sr1 (F := F) := by
  intro b hb
  obtain ⟨r, hr, rfl⟩ := Finset.mem_map.mp hb
  obtain rfl := Finset.mem_singleton.mp hr
  refine Finset.mem_sdiff.mpr ⟨Finset.mem_filter.mpr ⟨StableHlo.devRef_mem_tcRefs main_arg3, by decide⟩, fun h => ?_⟩
  obtain ⟨r', hr', e⟩ := Finset.mem_map.mp h
  obtain ⟨w, -, rfl⟩ := Finset.mem_image.mp hr'
  exact (by decide : ∀ w : Fin 5, Pipeline.arrRef spec1 w ≠ main_arg3) w (Proc.devRef_injective _ e)

theorem after1_V12 (c : Dev nD) (w : Fin cfg1.W) :
    (dat1 (V11 m (outs m)) c).arrAt w cfg1.N = V12 m (outs m) c (Proc.devRef .tc (Pipeline.arrRef spec1 w)) := by
  have hin : ∀ w : Fin cfg1.W, (cfg1.win w).isOut = false → Pipeline.arrRef spec1 w ≠ main_v49_0 → Pipeline.arrRef spec1 w ≠ main_v49_1 →
      (dat1 (V11 m (outs m)) c).arrAt w cfg1.N = V12 m (outs m) c (Proc.devRef .tc (Pipeline.arrRef spec1 w)) := fun w h h0 h1 => by
    rw [(dat1 (V11 m (outs m)) c).arrAt_in w h _, A1_eq]
    unfold V12
    rw [Function.update_of_ne (fun e => h1 (Proc.devRef_injective _ e)), Function.update_of_ne (fun e => h0 (Proc.devRef_injective _ e))]
  match w with
  | ⟨0, _⟩ => exact hin 0 rfl (by decide) (by decide)
  | ⟨1, _⟩ => exact hin 1 rfl (by decide) (by decide)
  | ⟨2, _⟩ => exact hin 2 rfl (by decide) (by decide)
  | ⟨3, _⟩ =>
    refine (Pipeline.afterRegion_arr (dat1 (V11 m (outs m)) c) (V11 m (outs m) c) launch1.win.arr_inj 3).symm.trans ?_
    have h01 : (Proc.devRef .tc main_v49_0 : DevRef τ sig) ≠ Proc.devRef .tc main_v49_1 := fun e =>
      (by decide : main_v49_0 ≠ main_v49_1) (Proc.devRef_injective _ e)
    show _ = Function.update (Function.update (V11 m (outs m) c) (Proc.devRef .tc main_v49_0) (outs m 12 main_v49_0 c))
      (Proc.devRef .tc main_v49_1) (outs m 12 main_v49_1 c) (Proc.devRef .tc main_v49_0)
    rw [Function.update_of_ne h01, Function.update_self]
    rfl
  | ⟨4, _⟩ =>
    refine (Pipeline.afterRegion_arr (dat1 (V11 m (outs m)) c) (V11 m (outs m) c) launch1.win.arr_inj 4).symm.trans ?_
    show _ = Function.update (Function.update (V11 m (outs m) c) (Proc.devRef .tc main_v49_0) (outs m 12 main_v49_0 c))
      (Proc.devRef .tc main_v49_1) (outs m 12 main_v49_1 c) (Proc.devRef .tc main_v49_1)
    rw [Function.update_self]
    rfl
  | ⟨n + 5, h⟩ => exact absurd h (by show ¬(n + 5 < 5); omega)

/-- Off the second call's arrays nothing changes. -/
theorem off1_V12 (c : Dev nD) : ∀ b ∈ Sr1 (F := F), V12 m (outs m) c b = V11 m (outs m) c b := by
  intro b hb
  have hn := (Finset.mem_sdiff.mp hb).2
  have hne : ∀ w : Fin 5, b ≠ Proc.devRef .tc (Pipeline.arrRef spec1 w) := fun w e =>
    hn (Finset.mem_map.mpr ⟨_, Finset.mem_image.mpr ⟨w, Finset.mem_univ _, rfl⟩, e.symm⟩)
  exact (Function.update_of_ne (hne 4) _ _).trans (Function.update_of_ne (hne 3) _ _)

def R1 : RegionSeg (pcfgs (F := F)) adm (pdats m) () defs₀ Variants.none Lall lv0 1 :=
  Pipeline.RegionSeg.ofHeldDH (pcfgs (F := F)) adm (pdats m) () defs₀ Variants.none Lall lv0 1 (fun _ => 0) () osem1 ownSemFacts1
    {main_arg3} (Sr1 (F := F)) hHS1 launch1.toP rfl
    (fun c => (body_obligation1 (V11 m (outs m)) c).loose) (fun _ _ => rfl) (fun _ => rfl) (fun c => (dat1 (V11 m (outs m)) c).share_full fun _ => rfl)
    (fun c => by iintro -; iapply (Transfers.MayWaits.zero (c : Thread nD τ) ()); iempintro)
    (V11 m (outs m)) (V12 m (outs m))
    (fun c => hin1 (V11 m (outs m)) c) (fun c => hout1 (V11 m (outs m)) c) (fun _ => 0) cut1 (fun _ => BI.emp)
    (fun c w => A1_eq (V11 m (outs m)) c w) (fun c w => after1_V12 m c w)

theorem hpre1 (c : Dev nD) : iprop(StableHlo.held (c : Thread nD τ) (Pipeline.ucRefs τ sig) (V11 m (outs m) c) ∗ EE 1 c) ⊢ (R1 m).pre c := by
  show _ ⊢ iprop(StableHlo.held (c.tc : Thread nD τ) (Pipeline.arrRefs (pcfgs (F := F) 1).spec) (V11 m (outs m) c) ∗ (∃ r, prngReg c r)
      ∗ (StableHlo.held (c.tc : Thread nD τ) (Sr1 (F := F)) (V11 m (outs m) c) ∗ BI.emp) ∗ ∃ Wd, owes (c : Thread nD τ) (0 : CellTallies nD τ sig Unit) Wd)
  rw [StableHlo.held_sub_split (c : Thread nD τ) (sub1 (F := F)) (V11 m (outs m) c)]
  unfold EE
  iintro ⟨⟨Ha, Hr⟩, HO, Hg⟩
  isplitl [Ha]; · iexact Ha
  isplitl [Hg]; · iexact Hg
  isplitl [Hr]
  · isplitl [Hr]; · iexact Hr
    iempintro
  iexact HO

theorem hpost1 (c : Dev nD) : (R1 m).post c ⊢ iprop(StableHlo.held (c : Thread nD τ) (Pipeline.ucRefs τ sig) (V12 m (outs m) c) ∗ EE 2 c) := by
  show iprop(StableHlo.held (c.tc : Thread nD τ) (Pipeline.arrRefs (pcfgs (F := F) 1).spec) (V12 m (outs m) c) ∗ (∃ r, prngReg c r)
      ∗ (StableHlo.held (c.tc : Thread nD τ) (Sr1 (F := F)) (V11 m (outs m) c) ∗ BI.emp) ∗ ∃ Wd, owes (c : Thread nD τ) (0 : CellTallies nD τ sig Unit) Wd) ⊢ _
  rw [StableHlo.held_sub_split (c : Thread nD τ) (sub1 (F := F)) (V12 m (outs m) c),
    StableHlo.held_congr (c : Thread nD τ) (S := Sr1 (F := F)) (off1_V12 m c)]
  unfold EE
  iintro ⟨Ha, Hg, ⟨Hr, -⟩, HO⟩
  isplitl [Ha Hr]
  · isplitl [Ha]; · iexact Ha
    iexact Hr
  isplitl [HO]; · iexact HO
  iexact Hg

/-! ## The run -/

def u₀ : UU nD τ := (initOf (Pipeline.cells cfgs cellOf_inj) (Pipeline.launchToks cfgs cellOf_inj), 1)

theorem hu₀ : (ownU u₀ : sProp 𝕄) ⊢ |={Set.univ}=> iprop(BI.own (EP (initOf (Pipeline.cells cfgs cellOf_inj) (Pipeline.launchToks cfgs cellOf_inj))) ∗ bigSep Finset.univ (fun _ : Dev nD => (BI.emp : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts Lall lv0)
      ⊢ (|={Set.univ}=> bigSep Finset.univ (EE (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
      ⊢ (bigSep Finset.univ (EE (F := F) 0) : sProp 𝕄) := bigSep_mono fun c _ => show iprop(unscopedSems0 c ∗ owes (c : Thread nD τ) (0 : CellTallies nD τ sig Unit) ∅ ∗ Pipeline.launchCred (fun _ => 0) c ∗ prngReg c (ρ c) ∗ (BI.emp : sProp 𝕄)) ⊢ EE 0 c from by
    unfold EE
    iintro ⟨-, HO, -, Hg, -⟩
    isplitl [HO]; · iexists _; iexact HO
    iexists _; iexact Hg
  iintro ⟨H, -⟩
  imodintro
  iapply h; iexact H

theorem hE2 (c : Dev nD) : EE 2 c ⊢ (iprop(∃ W, owes (c : Thread nD τ) (0 : CellTallies nD τ sig Unit) W) : sProp 𝕄) := by
  unfold EE; iintro ⟨HO, -⟩; iexact HO

set_option backward.isDefEq.respectTransparency.types false in
/-- Every weakly fair execution ends with every unscoped buffer at the last valuation and every counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V13 m (outs m) c b)
      ∧ r.2.sem = fun _ => 0) := by
  refine Pipeline.θ_run_regions_kit_dev_sems (pcfgs (F := F)) adm (pdats m) () cellOf_inj EP defs₀ Variants.none Lall lv0 m ρ main
    (segs m (outs m) Variants.none Lall lv0 EE () (pdats m) (R0 m) (R1 m))
    (fun c Q => by
      rewrite [main_chain c, Seg.run_eq_chain,
        show (segs m (outs m) Variants.none Lall lv0 EE () (pdats m) (R0 m) (R1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hLall (fun _ => BI.emp) u₀ hu₀
    (T₀ := fun c => iprop(StableHlo.held (c : Thread nD τ) (Pipeline.ucRefs τ sig) (V0 m c) ∗ EE 0 c))
    (Tₙ := fun c => StableHlo.held (c : Thread nD τ) (Pipeline.ucRefs τ sig) (V13 m (outs m) c))
    (hch := fun c => ⟨.rfl, hpre0 m c, hpost0 m c, .rfl, .rfl, .rfl, .rfl, .rfl, .rfl, .rfl, .rfl, hpre1 m c, hpost1 m c, sep_mono .rfl (hE2 c)⟩)
    (hinit := ?_) (QY := fun c s => ∀ b ∈ Pipeline.ucRefs τ sig, s.mem ((c : Thread nD τ).1, b) = V13 m (outs m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UU nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro; exact h
    · iexact HSI

/-- The frame: the arguments end as launched, every counter at zero. -/
theorem frame_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_cond m EP () Variants.none Lall lv0 hLall ρ (outs m) (pdats m) (fun _ => 0) (fun _ => BI.emp) u₀ hu₀ EE (hE0 ρ) hE2
    (R0 m) (hpre0 m) (hpost0 m) (R1 m) (hpre1 m) (hpost1 m)

end Cert.Kernel.Hand

end
-- ==== Proof.AmaxValue.lean ====
module

public import proofs.«01_k».proof.Proof.Launch
public import Idealize.ShloMosaic.Lib.Pipeline.ValueKit.Geometry
public import Idealize.ShloMosaic.PureOps.Ideal.Laws

/-! # What the column-maximum call leaves, over the extended reals

The result array of the first call holds one number at every index: the greatest absolute value of the gradient.
It is described by its upper bounds: a number bounds the result exactly when it bounds every absolute value. That way
no reduction is ever re-indexed. -/

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-- The absolute value on the extended reals. -/
def eabs (x : EReal) : EReal := max x (-x)

theorem bot_f32 : (FloatOps.ofBits .f32 0xFF800000#32 : Ideal .f32) = (⊥ : EReal) := by
  show Ideal.ofBits .f32 0xFF800000#32 = ⊥
  simp [Ideal.ofBits, Ideal.ieee]
theorem bot_bf16 : (FloatOps.ofBits .bf16 0xFF80#16 : Ideal .bf16) = (⊥ : EReal) := by
  show Ideal.ofBits .bf16 0xFF80#16 = ⊥
  simp [Ideal.ofBits, Ideal.ieee]

/-- A number bounds a maximum from below everything exactly when it bounds every entry. -/
theorem fold_max_le_iff {ι : Type} {φ : FTy} (s : Finset ι) (f : ι → Ideal φ) (b : EReal) :
    s.fold (FloatOps.maximumf (F := Ideal) (φ := φ)) (⊥ : EReal) f ≤ b ↔ ∀ i ∈ s, (f i : EReal) ≤ b := by
  have h : s.fold (FloatOps.maximumf (F := Ideal) (φ := φ)) (⊥ : EReal) f = s.fold (max : EReal → EReal → EReal) ⊥ f := rfl
  rw [h, Finset.fold_max_le]
  simp

/-- The column maxima of a block are all below `b` exactly when its absolute values are. -/
theorem pay1_le (v : Vec Ideal S1024x3584 .bf16) (b : EReal) :
    (∀ j, (k0_pay1 v j : EReal) ≤ b) ↔ ∀ i, eabs (v i) ≤ b := by
  have e : ∀ j, k0_pay1 v j = (Finset.univ.filter fun i => reduces_S64x16x3584_S16x3584.drop i = j).fold
      (FloatOps.maximumf (F := Ideal) (φ := .bf16)) (FloatOps.ofBits .bf16 0xFF80#16)
      (shapeCast S64x16x3584 (absf (shapeCast S1024x3584 v shapeCasts_S1024x3584_S1024x3584)) shapeCasts_S1024x3584_S64x16x3584) := by
    intro j
    unfold k0_pay1
    exact multiReduction_maximumf_eq_fold _ _ _ _ _ j
  simp only [e, bot_bf16, fold_max_le_iff, Finset.mem_filter, Finset.mem_univ, true_and]
  constructor
  · intro h i
    have := h _ ((Shape.reshapeEquiv shapeCasts_S1024x3584_S64x16x3584).symm ((Shape.reshapeEquiv shapeCasts_S1024x3584_S1024x3584).symm i)) rfl
    simpa [shapeCast, absf, Ideal.absf_def, eabs] using this
  · intro h j i _
    exact h _

theorem pay2_le (v : Vec Ideal S1024x3584 .bf16) (b : EReal) :
    (∀ j, (k0_pay2 v j : EReal) ≤ b) ↔ ∀ i, eabs (v i) ≤ b := by
  rw [← pay1_le]
  unfold k0_pay2
  exact ⟨fun h j => by simpa [shapeCast] using h ((Shape.reshapeEquiv shapeCasts_S16x3584_S16x3584).symm j), fun h j => h _⟩

theorem pay3_le (v : Vec Ideal S1024x3584 .bf16) (s : Vec Ideal S16x3584 .bf16) (b : EReal) :
    (∀ j, (k0_pay3 v s j : EReal) ≤ b) ↔ (∀ j, (s j : EReal) ≤ b) ∧ ∀ i, eabs (v i) ≤ b := by
  rw [← pay1_le, ← forall_and]
  unfold k0_pay3
  constructor
  · intro h j
    have := h ((Shape.reshapeEquiv shapeCasts_S16x3584_S16x3584).symm j)
    have h2 : max (s j : EReal) (k0_pay1 v j) ≤ b := by simpa [shapeCast, maximumf] using this
    exact max_le_iff.mp h2
  · intro h j
    exact max_le (h _).1 (h _).2

/-- An array of one element has one index. -/
theorem one_idx (i j : S1.Idx) : i = j := by
  funext a; apply Fin.ext
  match a with
  | ⟨0, _⟩ =>
    have hi : (i 0).val < 1 := (i 0).isLt
    have hj : (j 0).val < 1 := (j 0).isLt
    show (i 0).val = (j 0).val
    omega

/-- The maximum over every entry of a `1 × 16 × 3584` array. -/
theorem max1 (x : FVec Ideal S1x16x3584 .f32) (j : S1.Idx) :
    multiReduction .maximumf [1, 2] S1 x 0xFF800000#32 reduces_S1x16x3584_S1 (.inl rfl) rfl j
      = (Finset.univ.filter fun i => reduces_S1x16x3584_S1.drop i = j).fold
          (FloatOps.maximumf (F := Ideal) (φ := .f32)) (FloatOps.ofBits .f32 0xFF800000#32) x :=
  multiReduction_maximumf_eq_fold _ _ _ (.inl rfl) rfl _

theorem pay4_eq {F : FTy → Type} [FloatOps F] (s : Vec F S16x3584 .bf16) (j) : ∃ k : S1.Idx, k0_pay4 s j
    = multiReduction .maximumf [1, 2] S1 (shapeCast S1x16x3584 (extf .f32 s bitsLt_bf16_f32 : FVec F S16x3584 .f32) shapeCasts_S16x3584_S1x16x3584)
        0xFF800000#32 reduces_S1x16x3584_S1 (.inl rfl) rfl k := by
  refine ⟨Shape.reshapeEquiv shapeCasts_S1_S1x1x1 fun a => ⟨![0, 0, 0] a, inpos_S1x1x1_p0_0_0 a⟩, ?_⟩
  unfold k0_pay4
  simp only [broadcast, extractAt, shapeCast]

theorem pay4_le (s : Vec Ideal S16x3584 .bf16) (b : EReal) (j) :
    (k0_pay4 s j : EReal) ≤ b ↔ ∀ i, (s i : EReal) ≤ b := by
  obtain ⟨k, e⟩ := pay4_eq (F := Ideal) s j
  rw [e, max1, bot_f32, fold_max_le_iff]
  simp only [Finset.mem_filter, Finset.mem_univ, true_and]
  constructor
  · intro h i
    have := h ((Shape.reshapeEquiv shapeCasts_S16x3584_S1x16x3584).symm i) (one_idx _ _)
    simpa [shapeCast, extf] using this
  · intro h i _
    exact h _

section Typed

variable {F : FTy → Type} [FloatOps F]
variable (V : Dev nD → Valuation τ sig (Elt F)) (m : (ℓ : Loc nD τ sig) → Buf (Elt F) ℓ) (c : Dev nD)

/-- The gradient, as the array of numbers it is. -/
def gradA : Vec F S3x8192x3584 .bf16 := m ((c : Thread nD τ).loc main_arg2)
/-- The flat gradient the first call reads. -/
def gradFlat : Vec F S24576x3584 .bf16 := V c (Proc.devRef .tc main_v1)
/-- The block of it that point `t` of the first call reads. -/
def blkA (t : Fin cfg0.N) : Vec F S1024x3584 .bf16 := iblk0 V c 0 t
/-- The first call's result array. -/
def amaxA : Vec F S8x128 .f32 := V2 m (outs m) c (Proc.devRef .tc main_v2)

/-- The flat gradient holds the gradient's own entries in row-major order. -/
theorem V1_v1 : gradFlat (V1 m) c = shapeCast S24576x3584 (gradA m c) shapeCasts_S3x8192x3584_S24576x3584 := by
  show V1 m c (Proc.devRef .tc main_v1) = _
  after_results
  rfl

theorem idx0_0 : ∀ t : Fin cfg0.N, win0_0.index t = ![t.val, 0] :=
  (by decide +kernel : ∀ t : Fin grid0.N, win0_0.index t = ![t.val, 0])

/-- Every entry of a block is an entry of the flat gradient. -/
theorem blkA_mem (t : Fin cfg0.N) (i : S1024x3584.Idx) : ∃ j, blkA V c t i = gradFlat V c j := by
  unfold blkA gradFlat
  blk_simp [iblk0]
  exact ⟨_, rfl⟩

/-- Every entry of the flat gradient is an entry of some block. -/
theorem mem_blkA (i : S24576x3584.Idx) : ∃ t j, blkA V c t j = gradFlat V c i := by
  have h0 : (i 0).val < 24576 := (i 0).isLt
  have hN : (i 0).val / 1024 < cfg0.N := by show _ < grid0.N; rw [N_0]; omega
  refine ⟨⟨(i 0).val / 1024, hN⟩, (fun a => match a with
      | ⟨0, _⟩ => ⟨(i 0).val % 1024, Nat.mod_lt _ (by decide)⟩
      | ⟨1, _⟩ => ⟨(i 1).val, (i 1).isLt⟩), ?_⟩
  unfold blkA gradFlat
  blk_simp [iblk0]
  congr 1
  blk_ext [idx0_0]

theorem last0 : 23 < cfg0.N := by show 23 < grid0.N; rw [N_0]; decide

/-- The first call's result array: one number everywhere, made of the scratch after the last point. -/
theorem final0 : (dat0 V c).arrAt 1 cfg0.N = k0_pay4 (acc0 V c 23 last0) := by
  refine (dat0 V c).arrAt_eq_of_covers 1 _ (by decide +kernel) fun t hf y => ?_
  have ht : t.val = 23 := by have := (flush0_1 t).mp hf; have : t.val < 24 := lt_of_lt_of_eq t.isLt N_0; omega
  blk_simp
  rw [after0_1]
  have e : acc0 V c t.val t.isLt = acc0 V c 23 last0 := by congr 1
  rw [e]
  rfl

theorem amaxA_eq : amaxA m c = k0_pay4 (acc0 (V1 m) c 23 last0) := by
  rw [← final0]
  show Function.update (V1 m c) (Proc.devRef .tc main_v2) (outs m 2 main_v2 c) (Proc.devRef .tc main_v2) = _
  rw [Function.update_self]
  exact Pipeline.afterRegion_arr (dat0 (V1 m) c) (V1 m c) launch0.win.arr_inj 1

end Typed

variable (V : Dev nD → Valuation τ sig (Elt Ideal)) (m : (ℓ : Loc nD τ sig) → Buf (Elt Ideal) ℓ)

/-- After point `n` the scratch is below `b` exactly when every absolute value of the blocks so far is. -/
theorem acc0_le (c : Dev nD) (b : EReal) : ∀ (n : ℕ) (h : n < cfg0.N),
    (∀ j, (acc0 V c n h j : EReal) ≤ b) ↔ ∀ t : Fin cfg0.N, t.val ≤ n → ∀ i, eabs (blkA V c t i) ≤ b
  | 0, h => by
    unfold acc0
    rw [pay2_le]
    constructor
    · intro hh t ht
      have : t = ⟨0, h⟩ := Fin.ext (show t.val = 0 by omega)
      subst this; exact hh
    · intro hh; exact hh ⟨0, h⟩ le_rfl
  | n + 1, h => by
    unfold acc0
    rw [pay3_le, acc0_le c b n]
    constructor
    · rintro ⟨h1, h2⟩ t ht
      rcases Nat.lt_or_ge t.val (n + 1) with hlt | hge
      · exact h1 t (by omega)
      · have : t = ⟨n + 1, h⟩ := Fin.ext (show t.val = n + 1 by omega)
        subst this; exact h2
    · intro hh; exact ⟨fun t ht => hh t (by omega), hh ⟨n + 1, h⟩ le_rfl⟩

/-- **The greatest absolute value, by its upper bounds.** -/
theorem amax_le (c : Dev nD) (b : EReal) (j : S8x128.Idx) :
    (amaxA m c j : EReal) ≤ b ↔ ∀ i, eabs (gradA m c i) ≤ b := by
  rw [amaxA_eq, pay4_le, acc0_le]
  constructor
  · intro h i
    obtain ⟨t, j, e⟩ := mem_blkA (V1 m) c ((Shape.reshapeEquiv shapeCasts_S3x8192x3584_S24576x3584).symm i)
    have := h t (by have : t.val < 24 := lt_of_lt_of_eq t.isLt N_0; omega) j
    rw [e, V1_v1] at this
    simpa [shapeCast] using this
  · intro h t _ i
    obtain ⟨j, e⟩ := blkA_mem (V1 m) c t i
    rw [e, V1_v1]
    exact h _

end Cert.KernelIdeal.Hand

end
-- ==== Proof.HostValue.lean ====
module

public import proofs.«01_k».proof.Proof.AmaxValue

/-! # What the host lines compute from the greatest absolute value

The exponent, the two powers of two and the pair of factors, each as one function of the greatest absolute value; then
what the kernel program's buffers hold after its host lines. -/

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The greatest absolute value times the reciprocal of the format's largest number. -/
def scl (a : FVec F S_ .f32) : FVec F S_ .f32 := mulf a (constant S_ .f32 0x37924925#32)

/-- Every power of two from 2^-149 to 2^127. -/
def powTable : FVec F S277 .f32 :=
  bitcastToFloat .f32 (concatenate S277 0
    [⟨S23, Host.shli (broadcastInDim S23 ![] bcast_S_S23 (constantI S_ 32 1#32)) (iotaInDim S23 32 0)⟩,
     ⟨S254, Host.shli (addi (broadcastInDim S254 ![] bcast_S_S254 (constantI S_ 32 1#32)) (iotaInDim S254 32 0))
        (broadcastInDim S254 ![] bcast_S_S254 (constantI S_ 32 23#32))⟩] concatenates_S23_S254_S277_d0)

/-- How many of them are at most `s`, less 149. -/
def cntOf (s : FVec F S_ .f32) : IVec S_ 32 :=
  subi (Host.reduce IntOp.addi (extui 32 (cmpf .ole powTable (broadcastInDim S277 ![] bcast_S_S277 s)) natLt_1_32)
    (constantI S_ 32 0#32) reducesTo_S277_S_d0 h_S_) (constantI S_ 32 149#32)

/-- Zero, or not finite. -/
def spcOf (s : FVec F S_ .f32) : IVec S_ 1 :=
  ori (cmpf .oeq s (constant S_ .f32 0x00000000#32)) (noti (cmpf .olt s (constant S_ .f32 0x7F800000#32)))

/-- The exponent. -/
def expOf (a : FVec F S_ .f32) : IVec S_ 32 :=
  select (cmpf .oeq a (constant S_ .f32 0x00000000#32)) (constantI S_ 32 0#32)
    (select (spcOf (scl a)) (constantI S_ 32 0#32) (cntOf (scl a)))

/-- Whether the power's word is a subnormal one. -/
def lowOf (e : IVec S_ 32) : IVec S_ 1 := cmpi .slt e (constantI S_ 32 4294967170#32)
def subOf (e : IVec S_ 32) : IVec S_ 32 := Host.shli (constantI S_ 32 1#32) (addi e (constantI S_ 32 149#32))
def nrmOf (e : IVec S_ 32) : IVec S_ 32 :=
  Host.shli (addi (minsi e (constantI S_ 32 128#32)) (constantI S_ 32 127#32)) (constantI S_ 32 23#32)
/-- The word of 2^e. -/
def wordOf (e : IVec S_ 32) : IVec S_ 32 := select (lowOf e) (subOf e) (nrmOf e)
/-- 2^e. -/
def pow2Of (e : IVec S_ 32) : FVec F S_ .f32 := bitcastToFloat .f32 (wordOf e)

/-- The two factors: the reciprocal scale, and the product of both scales. -/
def pairOf (q d xs : FVec F S_ .f32) : FVec F S2 .f32 :=
  concatenate S2 0 [⟨S1, broadcastInDim S1 ![] bcast_S_S1 q⟩, ⟨S1, broadcastInDim S1 ![] bcast_S_S1 (mulf xs d)⟩] concatenates_S1_S1_S2_d0

def factorsOf (a xs : FVec F S_ .f32) : FVec F S2 .f32 := pairOf (pow2Of (negi (expOf a))) (pow2Of (expOf a)) xs

/-! ## The kernel program's host lines, stretch by stretch -/

variable (U : Valuation τ sig (Elt F))

/-- The scalar the host lines take out of the first call's result array. -/
def headOf (x : FVec F S8x128 .f32) : FVec F S_ .f32 := shapeCast S_ (extractStridedSlice S1x1 ![0, 0] x slices_S8x128_S1x1_0_0) shapeCasts_S1x1_S_

theorem a1_v4 : StableHlo.after hostOps1 U (Proc.devRef .tc main_v4) = headOf (U (Proc.devRef .tc main_v2)) := by
  after_results; rfl
theorem a1_v23 : StableHlo.after hostOps1 U (Proc.devRef .tc main_v23) = spcOf (scl (headOf (F := F) (U (Proc.devRef .tc main_v2)))) := by
  after_results; rfl
theorem a1_v24 : StableHlo.after hostOps1 U (Proc.devRef .tc main_v24) = cntOf (scl (headOf (F := F) (U (Proc.devRef .tc main_v2)))) := by
  after_results; rfl
theorem a1_c6 : StableHlo.after hostOps1 U (Proc.devRef .tc main_c_6) = constantI S_ 32 0#32 := by
  after_results
theorem a2_v25 : StableHlo.after hostOps1_1 U (Proc.devRef .tc main_v25)
    = select (U (Proc.devRef .tc main_v23) : IVec S_ 1) (U (Proc.devRef .tc main_c_6) : IVec S_ 32) (U (Proc.devRef .tc main_v24) : IVec S_ 32) := by
  after_results; rfl
theorem a3_v26 : StableHlo.after hostOps1_2 U (Proc.devRef .tc main_v26)
    = cmpf .oeq (U (Proc.devRef .tc main_v4) : FVec F S_ .f32) (constant S_ .f32 0x00000000#32) := by
  after_results
theorem a3_c8 : StableHlo.after hostOps1_2 U (Proc.devRef .tc main_c_8) = constantI S_ 32 0#32 := by
  after_results
theorem a4_v27 : StableHlo.after hostOps1_3 U (Proc.devRef .tc main_v27)
    = select (U (Proc.devRef .tc main_v26) : IVec S_ 1) (U (Proc.devRef .tc main_c_8) : IVec S_ 32) (U (Proc.devRef .tc main_v25) : IVec S_ 32) := by
  after_results; rfl
theorem a5_v28 : StableHlo.after hostOps1_4 U (Proc.devRef .tc main_v28) = lowOf (U (Proc.devRef .tc main_v27)) := by
  after_results; rfl
theorem a5_v30 : StableHlo.after hostOps1_4 U (Proc.devRef .tc main_v30) = subOf (U (Proc.devRef .tc main_v27)) := by
  after_results; rfl
theorem a5_v33 : StableHlo.after hostOps1_4 U (Proc.devRef .tc main_v33) = nrmOf (U (Proc.devRef .tc main_v27)) := by
  after_results; rfl
theorem a6_v34 : StableHlo.after hostOps1_5 U (Proc.devRef .tc main_v34)
    = select (U (Proc.devRef .tc main_v28) : IVec S_ 1) (U (Proc.devRef .tc main_v30) : IVec S_ 32) (U (Proc.devRef .tc main_v33) : IVec S_ 32) := by
  after_results; rfl
theorem a7_v35 : StableHlo.after hostOps1_6 U (Proc.devRef .tc main_v35) = bitcastToFloat (F := F) .f32 (U (Proc.devRef .tc main_v34) : IVec S_ 32) := by
  after_results
theorem a7_v37 : StableHlo.after hostOps1_6 U (Proc.devRef .tc main_v37) = lowOf (negi (U (Proc.devRef .tc main_v27) : IVec S_ 32)) := by
  after_results; rfl
theorem a7_v39 : StableHlo.after hostOps1_6 U (Proc.devRef .tc main_v39) = subOf (negi (U (Proc.devRef .tc main_v27) : IVec S_ 32)) := by
  after_results; rfl
theorem a7_v42 : StableHlo.after hostOps1_6 U (Proc.devRef .tc main_v42) = nrmOf (negi (U (Proc.devRef .tc main_v27) : IVec S_ 32)) := by
  after_results; rfl
theorem a8_v43 : StableHlo.after hostOps1_7 U (Proc.devRef .tc main_v43)
    = select (U (Proc.devRef .tc main_v37) : IVec S_ 1) (U (Proc.devRef .tc main_v39) : IVec S_ 32) (U (Proc.devRef .tc main_v42) : IVec S_ 32) := by
  after_results; rfl
theorem a9_v48 : StableHlo.after hostOps1_8 U (Proc.devRef .tc main_v48)
    = pairOf (bitcastToFloat (F := F) .f32 (U (Proc.devRef .tc main_v43) : IVec S_ 32)) (U (Proc.devRef .tc main_v35)) (U (Proc.devRef .tc main_arg1)) := by
  after_results; rfl

/-! ## Put together -/

variable (m : (ℓ : Loc nD τ sig) → Buf (Elt F) ℓ) (outs : Outs (F := F)) (c : Dev nD)

/-- The scalar that holds the greatest absolute value. -/
def headA : FVec F S_ .f32 := headOf (V2 m outs c (Proc.devRef .tc main_v2))

theorem V6_v27 : V6 m outs c (Proc.devRef .tc main_v27) = expOf (headA m outs c) := by
  refine (a4_v27 _).trans ?_
  rw [V5_of m outs c main_v25 (by decide)]
  rw [show V5 m outs c (Proc.devRef .tc main_v26) = _ from a3_v26 _, show V5 m outs c (Proc.devRef .tc main_c_8) = _ from a3_c8 _]
  rw [show V4 m outs c (Proc.devRef .tc main_v25) = _ from a2_v25 _, V4_of m outs c main_v4 (by decide)]
  rw [show V3 m outs c (Proc.devRef .tc main_v4) = _ from a1_v4 _, show V3 m outs c (Proc.devRef .tc main_v23) = _ from a1_v23 _,
    show V3 m outs c (Proc.devRef .tc main_v24) = _ from a1_v24 _, show V3 m outs c (Proc.devRef .tc main_c_6) = _ from a1_c6 _]
  rfl

theorem V8_v34 : V8 m outs c (Proc.devRef .tc main_v34) = wordOf (expOf (headA m outs c)) := by
  refine (a6_v34 _).trans ?_
  rw [show V7 m outs c (Proc.devRef .tc main_v28) = _ from a5_v28 _, show V7 m outs c (Proc.devRef .tc main_v30) = _ from a5_v30 _,
    show V7 m outs c (Proc.devRef .tc main_v33) = _ from a5_v33 _, V6_v27]
  rfl

theorem V8_v27 : V8 m outs c (Proc.devRef .tc main_v27) = expOf (headA m outs c) := by
  rw [V8_of m outs c main_v27 (by decide), V7_of m outs c main_v27 (by decide), V6_v27]

theorem V9_v35 : V9 m outs c (Proc.devRef .tc main_v35) = pow2Of (F := F) (expOf (headA m outs c)) := by
  refine (a7_v35 _).trans ?_
  rw [V8_v34]
  rfl

theorem V10_v43 : V10 m outs c (Proc.devRef .tc main_v43) = wordOf (negi (expOf (headA m outs c))) := by
  refine (a8_v43 _).trans ?_
  rw [show V9 m outs c (Proc.devRef .tc main_v37) = _ from a7_v37 _, show V9 m outs c (Proc.devRef .tc main_v39) = _ from a7_v39 _,
    show V9 m outs c (Proc.devRef .tc main_v42) = _ from a7_v42 _, V8_v27]
  rfl

theorem V10_arg1 : V10 m outs c (Proc.devRef .tc main_arg1) = m ((c : Thread nD τ).loc main_arg1) := by
  rw [V10_of m outs c main_arg1 (by decide), V9_of m outs c main_arg1 (by decide), V8_of m outs c main_arg1 (by decide),
    V7_of m outs c main_arg1 (by decide), V6_of m outs c main_arg1 (by decide), V5_of m outs c main_arg1 (by decide),
    V4_of m outs c main_arg1 (by decide), V3_of m outs c main_arg1 (by decide), V2_of m outs c main_arg1 (by decide),
    V1_of m c main_arg1 (by decide)]

theorem V11_v48 : V11 m outs c (Proc.devRef .tc main_v48) = factorsOf (headA m outs c) (m ((c : Thread nD τ).loc main_arg1)) := by
  refine (a9_v48 _).trans ?_
  rw [V10_v43, V10_arg1, V10_of m outs c main_v35 (by decide), V9_v35]
  rfl

theorem V13_v35 : V13 m outs c (Proc.devRef .tc main_v35) = pow2Of (F := F) (expOf (headA m outs c)) := by
  rw [V13_of m outs c main_v35 (by decide), V12_of m outs c main_v35 (by decide), V11_of m outs c main_v35 (by decide),
    V10_of m outs c main_v35 (by decide), V9_v35]

theorem V11_v1 : V11 m outs c (Proc.devRef .tc main_v1) = V1 m c (Proc.devRef .tc main_v1) := by
  rw [V11_of m outs c main_v1 (by decide), V10_of m outs c main_v1 (by decide), V9_of m outs c main_v1 (by decide), V8_of m outs c main_v1 (by decide),
    V7_of m outs c main_v1 (by decide), V6_of m outs c main_v1 (by decide), V5_of m outs c main_v1 (by decide),
    V4_of m outs c main_v1 (by decide), V3_of m outs c main_v1 (by decide), V2_of m outs c main_v1 (by decide)]
theorem V11_v0 : V11 m outs c (Proc.devRef .tc main_v0) = V1 m c (Proc.devRef .tc main_v0) := by
  rw [V11_of m outs c main_v0 (by decide), V10_of m outs c main_v0 (by decide), V9_of m outs c main_v0 (by decide), V8_of m outs c main_v0 (by decide),
    V7_of m outs c main_v0 (by decide), V6_of m outs c main_v0 (by decide), V5_of m outs c main_v0 (by decide),
    V4_of m outs c main_v0 (by decide), V3_of m outs c main_v0 (by decide), V2_of m outs c main_v0 (by decide)]
theorem V11_arg3 : V11 m outs c (Proc.devRef .tc main_arg3) = m ((c : Thread nD τ).loc main_arg3) := by
  rw [V11_of m outs c main_arg3 (by decide), V10_of m outs c main_arg3 (by decide), V9_of m outs c main_arg3 (by decide), V8_of m outs c main_arg3 (by decide),
    V7_of m outs c main_arg3 (by decide), V6_of m outs c main_arg3 (by decide), V5_of m outs c main_arg3 (by decide),
    V4_of m outs c main_arg3 (by decide), V3_of m outs c main_arg3 (by decide), V2_of m outs c main_arg3 (by decide), V1_of m c main_arg3 (by decide)]

end Cert.KernelIdeal.Hand

end
-- ==== Proof.RefHost.lean ====
module

public import proofs.«01_k».proof.Proof.HostValue
public import proofs.«01_k».proof.Proof.Gen.RefIdeal.Value

/-! # The reference's host lines

The same functions of the greatest absolute value, read from the reference's own lines, and the greatest absolute value
itself: one reduction over the whole gradient. -/

@[expose] public section

set_option maxRecDepth 16384

noncomputable section

namespace Cert.RefIdeal.Hand

open Cert.RefIdeal Cert.RefIdeal.Gen
open Idealize.ShloMosaic Idealize.ShloMosaic.TcCoe
open Idealize.SL Idealize.SL.Sem
open Cert.KernelIdeal.Hand (scl powTable cntOf spcOf expOf lowOf subOf nrmOf wordOf pow2Of pairOf factorsOf)

variable {F : FTy → Type} [FloatOps F] (U : Valuation τ sig (Elt F))

/-- The greatest absolute value, as the reference takes it. -/
def topOf (x : FVec F S3x8192x3584 .bf16) : FVec F S_ .f32 :=
  Host.reduce FloatOps.maximumf (Host.absf (extf .f32 x bitsLt_bf16_f32)) (constant S_ .f32 0xFF800000#32) reducesTo_S3x8192x3584_S_d0_1_2 h_S_

theorem r1_v4 : StableHlo.after hostOps0 U (Proc.devRef .tc main_v2) = topOf (F := F) (U (Proc.devRef .tc main_arg2)) := by
  after_results; try rfl
theorem r1_v23 : StableHlo.after hostOps0 U (Proc.devRef .tc main_v21) = spcOf (scl (topOf (F := F) (U (Proc.devRef .tc main_arg2)))) := by
  after_results; try rfl
theorem r1_v24 : StableHlo.after hostOps0 U (Proc.devRef .tc main_v22) = cntOf (scl (topOf (F := F) (U (Proc.devRef .tc main_arg2)))) := by
  after_results; try rfl
theorem r1_c6 : StableHlo.after hostOps0 U (Proc.devRef .tc main_c_7) = constantI S_ 32 0#32 := by
  after_results; try rfl
theorem r2_v25 : StableHlo.after hostOps0_1 U (Proc.devRef .tc main_v23)
    = select (U (Proc.devRef .tc main_v21) : IVec S_ 1) (U (Proc.devRef .tc main_c_7) : IVec S_ 32) (U (Proc.devRef .tc main_v22) : IVec S_ 32) := by
  after_results; try rfl
theorem r3_v26 : StableHlo.after hostOps0_2 U (Proc.devRef .tc main_v24)
    = cmpf .oeq (U (Proc.devRef .tc main_v2) : FVec F S_ .f32) (constant S_ .f32 0x00000000#32) := by
  after_results; try rfl
theorem r3_c8 : StableHlo.after hostOps0_2 U (Proc.devRef .tc main_c_9) = constantI S_ 32 0#32 := by
  after_results; try rfl
theorem r4_v27 : StableHlo.after hostOps0_3 U (Proc.devRef .tc main_v25)
    = select (U (Proc.devRef .tc main_v24) : IVec S_ 1) (U (Proc.devRef .tc main_c_9) : IVec S_ 32) (U (Proc.devRef .tc main_v23) : IVec S_ 32) := by
  after_results; try rfl
theorem r5_v28 : StableHlo.after hostOps0_4 U (Proc.devRef .tc main_v26) = lowOf (U (Proc.devRef .tc main_v25)) := by
  after_results; try rfl
theorem r5_v30 : StableHlo.after hostOps0_4 U (Proc.devRef .tc main_v28) = subOf (U (Proc.devRef .tc main_v25)) := by
  after_results; try rfl
theorem r5_v33 : StableHlo.after hostOps0_4 U (Proc.devRef .tc main_v31) = nrmOf (U (Proc.devRef .tc main_v25)) := by
  after_results; try rfl
theorem r6_v34 : StableHlo.after hostOps0_5 U (Proc.devRef .tc main_v32)
    = select (U (Proc.devRef .tc main_v26) : IVec S_ 1) (U (Proc.devRef .tc main_v28) : IVec S_ 32) (U (Proc.devRef .tc main_v31) : IVec S_ 32) := by
  after_results; try rfl
theorem r7_v35 : StableHlo.after hostOps0_6 U (Proc.devRef .tc main_v33) = bitcastToFloat (F := F) .f32 (U (Proc.devRef .tc main_v32) : IVec S_ 32) := by
  after_results; try rfl
theorem r7_v37 : StableHlo.after hostOps0_6 U (Proc.devRef .tc main_v35) = lowOf (negi (U (Proc.devRef .tc main_v25) : IVec S_ 32)) := by
  after_results; try rfl
theorem r7_v39 : StableHlo.after hostOps0_6 U (Proc.devRef .tc main_v37) = subOf (negi (U (Proc.devRef .tc main_v25) : IVec S_ 32)) := by
  after_results; try rfl
theorem r7_v42 : StableHlo.after hostOps0_6 U (Proc.devRef .tc main_v40) = nrmOf (negi (U (Proc.devRef .tc main_v25) : IVec S_ 32)) := by
  after_results; try rfl
theorem r8_v43 : StableHlo.after hostOps0_7 U (Proc.devRef .tc main_v41)
    = select (U (Proc.devRef .tc main_v35) : IVec S_ 1) (U (Proc.devRef .tc main_v37) : IVec S_ 32) (U (Proc.devRef .tc main_v40) : IVec S_ 32) := by
  after_results; try rfl
theorem r9_v48 : StableHlo.after hostOps0_8 U (Proc.devRef .tc main_v46)
    = pairOf (bitcastToFloat (F := F) .f32 (U (Proc.devRef .tc main_v41) : IVec S_ 32)) (U (Proc.devRef .tc main_v33)) (U (Proc.devRef .tc main_arg1)) := by
  after_results; try rfl

/-! ## Put together -/

/-- The buffers after each stretch. -/
def W1 : Valuation τ sig (Elt F) := StableHlo.after hostOps0 U
def W2 : Valuation τ sig (Elt F) := StableHlo.after hostOps0_1 (W1 U)
def W3 : Valuation τ sig (Elt F) := StableHlo.after hostOps0_2 (W2 U)
def W4 : Valuation τ sig (Elt F) := StableHlo.after hostOps0_3 (W3 U)
def W5 : Valuation τ sig (Elt F) := StableHlo.after hostOps0_4 (W4 U)
def W6 : Valuation τ sig (Elt F) := StableHlo.after hostOps0_5 (W5 U)
def W7 : Valuation τ sig (Elt F) := StableHlo.after hostOps0_6 (W6 U)
def W8 : Valuation τ sig (Elt F) := StableHlo.after hostOps0_7 (W7 U)
def W9 : Valuation τ sig (Elt F) := StableHlo.after hostOps0_8 (W8 U)

theorem V_eq (m : (ℓ : Loc nD τ sig) → Buf (Elt F) ℓ) (c : Dev nD) (r : Ref sig .tc) :
    V m c r = W9 (fun b => m (c, b)) (Proc.devRef .tc r) := by
  unfold W9 W8 W7 W6 W5 W4 W3 W2 W1
  simp only [V, List.flatten_cons, List.flatten_nil, StableHlo.after_append, List.append_nil]

theorem W2_v2 : W2 U (Proc.devRef .tc main_v2) = topOf (F := F) (U (Proc.devRef .tc main_arg2)) :=
  (show W2 U (Proc.devRef .tc main_v2) = W1 U (Proc.devRef .tc main_v2) by unfold W2; after_results).trans (r1_v4 U)
theorem W3_v23 : W3 U (Proc.devRef .tc main_v23) = select (spcOf (scl (topOf (F := F) (U (Proc.devRef .tc main_arg2))))) (constantI S_ 32 0#32) (cntOf (scl (topOf (F := F) (U (Proc.devRef .tc main_arg2))))) := by
  refine (show W3 U (Proc.devRef .tc main_v23) = W2 U (Proc.devRef .tc main_v23) by unfold W3; after_results).trans ((r2_v25 _).trans ?_)
  rw [show W1 U (Proc.devRef .tc main_v21) = _ from r1_v23 U, show W1 U (Proc.devRef .tc main_v22) = _ from r1_v24 U, show W1 U (Proc.devRef .tc main_c_7) = _ from r1_c6 U]
theorem W4_v25 : W4 U (Proc.devRef .tc main_v25) = expOf (topOf (F := F) (U (Proc.devRef .tc main_arg2))) := by
  refine (r4_v27 _).trans ?_
  rw [show W3 U (Proc.devRef .tc main_v24) = _ from r3_v26 _, show W3 U (Proc.devRef .tc main_c_9) = _ from r3_c8 _, W3_v23, W2_v2]
  rfl
theorem W6_v32 : W6 U (Proc.devRef .tc main_v32) = wordOf (expOf (topOf (F := F) (U (Proc.devRef .tc main_arg2)))) := by
  refine (r6_v34 _).trans ?_
  rw [show W5 U (Proc.devRef .tc main_v26) = _ from r5_v28 _, show W5 U (Proc.devRef .tc main_v28) = _ from r5_v30 _, show W5 U (Proc.devRef .tc main_v31) = _ from r5_v33 _, W4_v25]
  rfl
theorem W6_v25 : W6 U (Proc.devRef .tc main_v25) = expOf (topOf (F := F) (U (Proc.devRef .tc main_arg2))) :=
  (show W6 U (Proc.devRef .tc main_v25) = W4 U (Proc.devRef .tc main_v25) by unfold W6 W5; after_results).trans (W4_v25 U)
theorem W7_v33 : W7 U (Proc.devRef .tc main_v33) = pow2Of (F := F) (expOf (topOf (F := F) (U (Proc.devRef .tc main_arg2)))) := by
  refine (r7_v35 _).trans ?_
  rw [W6_v32]
  rfl
theorem W8_v41 : W8 U (Proc.devRef .tc main_v41) = wordOf (negi (expOf (topOf (F := F) (U (Proc.devRef .tc main_arg2))))) := by
  refine (r8_v43 _).trans ?_
  rw [show W7 U (Proc.devRef .tc main_v35) = _ from r7_v37 _, show W7 U (Proc.devRef .tc main_v37) = _ from r7_v39 _, show W7 U (Proc.devRef .tc main_v40) = _ from r7_v42 _, W6_v25]
  rfl
theorem W8_v33 : W8 U (Proc.devRef .tc main_v33) = pow2Of (F := F) (expOf (topOf (F := F) (U (Proc.devRef .tc main_arg2)))) :=
  (show W8 U (Proc.devRef .tc main_v33) = W7 U (Proc.devRef .tc main_v33) by unfold W8; after_results).trans (W7_v33 U)
theorem W9_v33 : W9 U (Proc.devRef .tc main_v33) = pow2Of (F := F) (expOf (topOf (F := F) (U (Proc.devRef .tc main_arg2)))) :=
  (show W9 U (Proc.devRef .tc main_v33) = W8 U (Proc.devRef .tc main_v33) by unfold W9; after_results).trans (W8_v33 U)
theorem W8_arg1 : W8 U (Proc.devRef .tc main_arg1) = U (Proc.devRef .tc main_arg1) := by
  unfold W8 W7 W6 W5 W4 W3 W2 W1; after_results
theorem W9_v46 : W9 U (Proc.devRef .tc main_v46) = factorsOf (topOf (F := F) (U (Proc.devRef .tc main_arg2))) (U (Proc.devRef .tc main_arg1)) := by
  refine (r9_v48 _).trans ?_
  rw [W8_v41, W8_v33, W8_arg1]
  rfl

end Cert.RefIdeal.Hand

end
-- ==== Proof.AmaxEq.lean ====
module

public import proofs.«01_k».proof.Proof.RefHost

/-! # Both programs find the same greatest absolute value

A number bounds either one from above exactly when it bounds every absolute value of the gradient, so they are equal. -/

@[expose] public section

set_option maxRecDepth 16384

noncomputable section

namespace Cert.RefIdeal.Hand

open Cert.RefIdeal Cert.RefIdeal.Gen
open Idealize.ShloMosaic Idealize.ShloMosaic.TcCoe
open Idealize.SL Idealize.SL.Sem
open Cert.KernelIdeal.Hand (eabs bot_f32 fold_max_le_iff gradA amaxA amax_le headOf headA)

/-- An array of no axes has one index. -/
theorem no_axes (i j : S_.Idx) : i = j := funext fun a => a.elim0

/-- The reduction of the whole gradient, as a fold. -/
theorem topOf_eq (x : FVec Ideal S3x8192x3584 .bf16) (j : S_.Idx) :
    topOf x j = (Finset.univ.filter fun i => reducesTo_S3x8192x3584_S_d0_1_2.drop i = j).fold
      (FloatOps.maximumf (F := Ideal) (φ := .f32)) (FloatOps.ofBits .f32 0xFF800000#32) (Host.absf (extf .f32 x bitsLt_bf16_f32)) := by
  unfold topOf
  exact Host.reduce_eq_fold _ _ _ _ _ j

/-- The reference's greatest absolute value, by its upper bounds. -/
theorem topOf_le (x : FVec Ideal S3x8192x3584 .bf16) (j : S_.Idx) (b : EReal) :
    (topOf x j : EReal) ≤ b ↔ ∀ i, eabs (x i) ≤ b := by
  rw [topOf_eq, bot_f32, fold_max_le_iff]
  simp only [Finset.mem_filter, Finset.mem_univ, true_and]
  exact ⟨fun h i => h i (no_axes _ _), fun h i _ => h i⟩

/-- The kernel program's scalar is an entry of its first call's result array. -/
theorem headOf_entry {F : FTy → Type} [FloatOps F] (x : FVec F Cert.KernelIdeal.S8x128 .f32) (j) : ∃ k, headOf x j = x k := ⟨_, rfl⟩

/-- **Both programs find the same greatest absolute value.** -/
theorem amax_eq (m : (ℓ : Loc Cert.KernelIdeal.nD Cert.KernelIdeal.τ Cert.KernelIdeal.sig) → Buf (Elt Ideal) ℓ) (c : Dev Cert.KernelIdeal.nD) :
    headA m (Cert.KernelIdeal.Hand.outs m) c = topOf (gradA m c) := by
  funext j
  obtain ⟨k, e⟩ := headOf_entry (amaxA m c) j
  refine e.trans (eq_of_forall_ge_iff (α := EReal) fun b => ?_)
  rw [amax_le, topOf_le]

end Cert.RefIdeal.Hand

end
-- ==== Proof.CodesValue.lean ====
module

public import proofs.«01_k».proof.Proof.AmaxEq

/-! # The codes the second call leaves

Every entry of the codes' array is the code of the same entry of the flat gradient. A block of the codes' array is
written at the points that read the same block of the gradient. -/

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : Dev nD → Valuation τ sig (Elt F)) (c : Dev nD)

/-- The code of one number: scaled, clipped to the format's range, and converted. -/
def codeAt (f : F .f32) (v : F .bf16) : F .fp8e5m2 :=
  FloatOps.truncf .fp8e5m2 bitsLt_fp8e5m2_f32 (FloatOps.minimumf (FloatOps.ofBits .f32 0x47600000#32)
    (FloatOps.maximumf (FloatOps.ofBits .f32 0xC7600000#32) (FloatOps.mulf (FloatOps.extf .f32 bitsLt_bf16_f32 v) f)))

/-- The two factors the second call reads. -/
def facs : Vec F S2 .f32 := V c (Proc.devRef .tc main_v48)
/-- The flat codes. -/
def codesFlat : Vec F S24576x3584 .fp8e5m2 := fun i => codeAt (fac0 (facs V c)) (gradFlat V c i)

theorem pay2_at (v : Vec F S1024x1792 .bf16) (f : Elt F .f32) (i : S1024x1792.Idx) : k1_pay2 v f i = codeAt f (v i) := by
  unfold k1_pay2
  rw [shapeCast_self]
  rfl

theorem idx1_0 : ∀ t : Fin cfg1.N, win1_0.index t = ![0] :=
  (by decide +kernel : ∀ t : Fin grid1.N, win1_0.index t = ![0])
theorem idx1_2 : ∀ t : Fin cfg1.N, win1_2.index t = ![t.val % 24, t.val / 24 % 2] :=
  (by decide +kernel : ∀ t : Fin grid1.N, win1_2.index t = ![t.val % 24, t.val / 24 % 2])
theorem idx1_4 : ∀ t : Fin cfg1.N, win1_4.index t = ![min t.val 47 % 24, min t.val 47 / 24 % 2] :=
  (by decide +kernel : ∀ t : Fin grid1.N, win1_4.index t = ![min t.val 47 % 24, min t.val 47 / 24 % 2])

/-- Every point reads the whole of the factors. -/
theorem facs_blk (t : Fin cfg1.N) : (iblk1 V c 0 t : Vec F S2 .f32) = facs V c := by
  funext y
  unfold facs
  blk_simp [iblk1]
  congr 1
  blk_ext [idx1_0]

theorem codes_blk (t : Fin cfg1.N) (y) : codes V c (codePt t) y = codesFlat V c (((cfg1.win 4).blk t).view.emb y) := by
  unfold codes codesFlat
  rw [pay2_at, facs_blk]
  congr 1
  unfold gradFlat
  blk_simp [iblk1]
  congr 1
  blk_ext [idx1_2, idx1_4, codePt]

/-- **The codes' array after the second call.** -/
theorem final4 : (dat1 V c).arrAt 4 cfg1.N = codesFlat V c := by
  refine (dat1 V c).arrAt_eq_of_covers 4 _ (by decide +kernel) fun t hf y => ?_
  blk_simp
  rw [after1_4]
  exact codes_blk V c t y

end Cert.KernelIdeal.Hand

end
-- ==== Proof.DwValue.lean ====
module

public import proofs.«01_k».proof.Proof.CodesValue
public import Idealize.ShloMosaic.Lib.ValueIdxCore

/-! # The weight gradient the second call leaves, over the extended reals

The accumulator of a tile after `n` of its row blocks is the sum of the products of the first `1024 · n` rows; the
sum over a tile's 24 points is the sum over all the rows. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

section Typed

variable {F : FTy → Type} [FloatOps F]
variable (V : Dev nD → Valuation τ sig (Elt F)) (c : Dev nD)

/-- The flat first factor the second call reads. -/
def xFlat : Vec F S24576x3584 .fp8e4m3 := V c (Proc.devRef .tc main_v0)
/-- The block of it that a point reads. -/
def xBlk (t : Fin cfg1.N) : Vec F S1024x1792 .fp8e4m3 := iblk1 V c 1 t
/-- The block of codes that a point makes. -/
def cBlk (t : Fin cfg1.N) : Vec F S1024x1792 .fp8e5m2 := codes V c t
/-- The old weight gradient. -/
def dwOld : Vec F S3584x3584 .f32 := V c (Proc.devRef .tc main_arg3)

theorem idx1_1 : ∀ t : Fin cfg1.N, win1_1.index t = ![t.val % 24, t.val / 48 % 2] :=
  (by decide +kernel : ∀ t : Fin grid1.N, win1_1.index t = ![t.val % 24, t.val / 48 % 2])
theorem idx1_3 : ∀ t : Fin cfg1.N, win1_3.index t = ![t.val / 48 % 2, t.val / 24 % 2] :=
  (by decide +kernel : ∀ t : Fin grid1.N, win1_3.index t = ![t.val / 48 % 2, t.val / 24 % 2])

theorem row_lt (t : Fin cfg1.N) (r : Fin 1024) : 1024 * (t.val % 24) + r.val < 24576 := by have := r.isLt; omega
theorem colx_lt (t : Fin cfg1.N) (a : Fin 1792) : 1792 * (t.val / 48 % 2) + a.val < 3584 := by have := a.isLt; omega
theorem colc_lt (t : Fin cfg1.N) (a : Fin 1792) : 1792 * (t.val / 24 % 2) + a.val < 3584 := by have := a.isLt; omega

theorem xBlk_at (t : Fin cfg1.N) (r : Fin 1024) (a : Fin 1792) :
    xBlk V c t (ix2 r a) = xFlat V c (ix2 ⟨1024 * (t.val % 24) + r.val, row_lt t r⟩ ⟨1792 * (t.val / 48 % 2) + a.val, colx_lt t a⟩) := by
  unfold xBlk xFlat
  blk_simp [iblk1]
  congr 1
  blk_ext [idx1_1]
  · show t.val % 24 * 1024 + r.val = _; omega
  · show t.val / 48 % 2 * 1792 + a.val = _; omega

theorem cBlk_at (t : Fin cfg1.N) (r : Fin 1024) (a : Fin 1792) :
    cBlk V c t (ix2 r a) = codesFlat V c (ix2 ⟨1024 * (t.val % 24) + r.val, row_lt t r⟩ ⟨1792 * (t.val / 24 % 2) + a.val, colc_lt t a⟩) := by
  unfold cBlk codes codesFlat
  rw [pay2_at, facs_blk]
  congr 1
  unfold gradFlat
  blk_simp [iblk1]
  congr 1
  blk_ext [idx1_2]
  · show t.val % 24 * 1024 + r.val = _; omega
  · show t.val / 24 % 2 * 1792 + a.val = _; omega

/-- What a tile's last point reads of the old weight gradient. -/
theorem tile_at (t : Fin cfg1.N) (a b : Fin 1792) :
    (tile (tp t.val) (tq t.val)).view.read (Elt F) (XA1 V c) (ix2 a b)
      = dwOld V c (ix2 ⟨1792 * (t.val / 48 % 2) + a.val, colx_lt t a⟩ ⟨1792 * (t.val / 24 % 2) + b.val, colc_lt t b⟩) := by
  show XA1 V c _ = _
  unfold dwOld XA1
  congr 1
  funext d
  apply Fin.ext
  match d with
  | ⟨0, _⟩ => exact (show 1792 * (t.val / 48 % 2) + 1 * a.val = 1792 * (t.val / 48 % 2) + a.val by omega)
  | ⟨1, _⟩ => exact (show 1792 * (t.val / 24 % 2) + 1 * b.val = 1792 * (t.val / 24 % 2) + b.val by omega)

theorem pay1_at (y : S1792x1792.Idx) : k1_pay1 (F := F) y = FloatOps.ofBits .f32 0x00000000#32 := rfl

theorem pay3_at (v3 : Vec F S1024x1792 .bf16) (v6 : Elt F .f32) (v17 : Vec F S1792x1792 .f32) (v19 : Vec F S1024x1792 .fp8e4m3) (y) :
    k1_pay3 v3 v6 v17 v19 y = FloatOps.addf (v17 y)
      (FloatOps.matmul dot_S1024x1792_S1024x1792_S1792x1792_0_0_1_1_n_n none v19 (k1_pay2 v3 v6) (constant S1792x1792 .f32 0x00000000#32) y) := by
  unfold k1_pay3
  rw [shapeCast_self, shapeCast_self]
  rfl

theorem pay4_at (v30 v31 : Vec F S1792x1792 .f32) (v33 : Elt F .f32) (y) :
    k1_pay4 v30 v31 v33 y = FloatOps.addf (v30 y) (FloatOps.mulf (v31 y) v33) := by
  unfold k1_pay4
  rw [shapeCast_self]
  rfl

end Typed

theorem zero_f32 : (FloatOps.ofBits .f32 0x00000000#32 : Ideal .f32) = (0 : EReal) := by
  show Ideal.ofBits .f32 0x00000000#32 = 0
  simp [Ideal.ofBits, Ideal.ieee]

/-- A point's product of blocks, entry by entry. -/
theorem dot_small (prec : Option ContractPrecision) (x : FVec Ideal S1024x1792 .fp8e4m3) (y : FVec Ideal S1024x1792 .fp8e5m2) (z : FVec Ideal S1792x1792 .f32) (a b : Fin 1792) :
    FloatOps.matmul dot_S1024x1792_S1024x1792_S1792x1792_0_0_1_1_n_n prec x y z (ix2 a b)
      = z (ix2 a b) + ∑ r : Fin 1024, x (ix2 r a) * y (ix2 r b) := by
  have hr : dot_S1024x1792_S1024x1792_S1792x1792_0_0_1_1_n_n.contr.rank = 1 := rfl
  have hs : dot_S1024x1792_S1024x1792_S1792x1792_0_0_1_1_n_n.contr.size ⟨0, by rw [hr]; exact Nat.one_pos⟩ = 1024 := rfl
  rw [Ideal.matmul_apply, ← Equiv.sum_comp (contrEquiv1 dot_S1024x1792_S1024x1792_S1792x1792_0_0_1_1_n_n 1024 hr hs).symm]
  refine congrArg (z (ix2 a b) + ·) (Finset.sum_congr rfl fun k _ => ?_)
  have hk := contrEquiv1_symm_val dot_S1024x1792_S1024x1792_S1792x1792_0_0_1_1_n_n 1024 hr hs k
  have el : dot_S1024x1792_S1024x1792_S1792x1792_0_0_1_1_n_n.lhsIdx (ix2 a b) ((contrEquiv1 dot_S1024x1792_S1024x1792_S1792x1792_0_0_1_1_n_n 1024 hr hs).symm k) = ix2 k a := by
    funext d; apply Fin.ext
    match d with
    | ⟨0, _⟩ => exact hk
    | ⟨1, _⟩ => rfl
  have er : dot_S1024x1792_S1024x1792_S1792x1792_0_0_1_1_n_n.rhsIdx (ix2 a b) ((contrEquiv1 dot_S1024x1792_S1024x1792_S1792x1792_0_0_1_1_n_n 1024 hr hs).symm k) = ix2 k b := by
    funext d; apply Fin.ext
    match d with
    | ⟨0, _⟩ => exact hk
    | ⟨1, _⟩ => rfl
  rw [el, er]

variable (V : Dev nD → Valuation τ sig (Elt Ideal)) (c : Dev nD)

/-- Row `r`'s product at an entry of the weight gradient, and nothing past the last row. -/
def rowProd (x : Vec Ideal S24576x3584 .fp8e4m3) (y : Vec Ideal S24576x3584 .fp8e5m2) (a b : Fin 3584) (r : ℕ) : EReal :=
  if h : r < 24576 then (x (ix2 ⟨r, h⟩ a) : EReal) * y (ix2 ⟨r, h⟩ b) else 0

/-- One point adds its 1024 rows' products. -/
theorem step1_at (t : Fin cfg1.N) (s : Vec Ideal S1792x1792 .f32) (a b : Fin 1792) :
    (step1 V c t s (ix2 a b) : EReal) = s (ix2 a b) + ∑ r ∈ Finset.range 1024,
      rowProd (xFlat V c) (codesFlat V c) ⟨1792 * (t.val / 48 % 2) + a.val, colx_lt t a⟩ ⟨1792 * (t.val / 24 % 2) + b.val, colc_lt t b⟩ (1024 * (t.val % 24) + r) := by
  have e : step1 V c t s (ix2 a b) = FloatOps.addf (s (ix2 a b))
      (FloatOps.matmul dot_S1024x1792_S1024x1792_S1792x1792_0_0_1_1_n_n none (xBlk V c t) (cBlk V c t) (constant S1792x1792 .f32 0x00000000#32) (ix2 a b)) :=
    pay3_at _ _ _ _ _
  rw [e, dot_small]
  have hz : (constant S1792x1792 .f32 0x00000000#32 : FVec Ideal S1792x1792 .f32) (ix2 a b) = (0 : EReal) := zero_f32
  rw [hz, zero_add, Finset.sum_range]
  refine congrArg (s (ix2 a b) + ·) (Finset.sum_congr rfl fun r _ => ?_)
  rw [xBlk_at, cBlk_at]
  unfold rowProd
  rw [dif_pos (row_lt t r)]

/-- The accumulator after a point: the products of the tile's rows so far. -/
theorem acc1_at : ∀ (n : ℕ) (h : n < cfg1.N) (a b : Fin 1792),
    (acc1 V c n h (ix2 a b) : EReal) = ∑ r ∈ Finset.range (1024 * (n % 24) + 1024),
      rowProd (xFlat V c) (codesFlat V c) ⟨1792 * (n / 48 % 2) + a.val, colx_lt ⟨n, h⟩ a⟩ ⟨1792 * (n / 24 % 2) + b.val, colc_lt ⟨n, h⟩ b⟩ r
  | 0, h, a, b => by
    unfold acc1
    rw [step1_at, pay1_at, zero_f32, zero_add]
    refine Finset.sum_congr rfl fun r _ => ?_
    show rowProd _ _ _ _ (1024 * (0 % 24) + r) = rowProd _ _ _ _ r
    simp only [Nat.zero_mod, Nat.mul_zero, Nat.zero_add]
  | n + 1, h, a, b => by
    unfold acc1
    rw [step1_at]
    by_cases hz : (n + 1) % 24 = 0
    · rw [if_pos hz, pay1_at, zero_f32, zero_add]
      simp only [hz, Nat.mul_zero, Nat.zero_add]
    · rw [if_neg hz, acc1_at n _ a b]
      have h1 : (n + 1) % 24 = n % 24 + 1 := by omega
      have h2 : (n + 1) / 24 = n / 24 := by omega
      have h3 : (n + 1) / 48 = n / 48 := by omega
      simp only [h1, h2, h3]
      rw [show 1024 * (n % 24 + 1) = 1024 * (n % 24) + 1024 by omega]
      exact (Finset.sum_range_add _ _ _).symm

/-- The new weight gradient. -/
def dwNew (x : Vec Ideal S24576x3584 .fp8e4m3) (y : Vec Ideal S24576x3584 .fp8e5m2) (d : Vec Ideal S3584x3584 .f32) (f : Elt Ideal .f32) : Vec Ideal S3584x3584 .f32 :=
  fun i => FloatOps.addf (F := Ideal) (φ := .f32) (d i) (FloatOps.mulf (F := Ideal) (φ := .f32) (∑ r ∈ Finset.range 24576, rowProd x y (i 0) (i 1) r : EReal) f)

theorem out3_at (t : Fin cfg1.N) (h : t.val % 24 = 23) (a b : Fin 1792) : out3 V c t (ix2 a b)
    = dwNew (xFlat V c) (codesFlat V c) (dwOld V c) (fac1 (facs V c))
        (ix2 ⟨1792 * (t.val / 48 % 2) + a.val, colx_lt t a⟩ ⟨1792 * (t.val / 24 % 2) + b.val, colc_lt t b⟩) := by
  unfold out3
  rw [if_pos h, pay4_at, tile_at, facs_blk]
  have e := acc1_at V c t.val t.isLt a b
  rw [h] at e
  unfold dwNew
  rw [e]

/-- **The weight gradient after the second call.** -/
theorem final3 : (dat1 V c).arrAt 3 cfg1.N = dwNew (xFlat V c) (codesFlat V c) (dwOld V c) (fac1 (facs V c)) := by
  refine (dat1 V c).arrAt_eq_of_covers 3 _ (by decide +kernel) fun t hf y => ?_
  have h23 : t.val % 24 = 23 := (flush1_3 t).mp hf
  blk_simp
  rw [after1_3]
  have hy : y = ix2 (y 0) (y 1) := eq_ix2 y
  refine (congrArg (out3 V c t) hy).trans ((out3_at V c t h23 (y 0) (y 1)).trans ?_)
  congr 1
  blk_ext [idx1_3]

end Cert.KernelIdeal.Hand

end
-- ==== Proof.RefValue.lean ====
module

public import proofs.«01_k».proof.Proof.DwValue

/-! # What the reference's one call leaves -/

@[expose] public section

set_option maxRecDepth 16384

noncomputable section

namespace Cert.RefIdeal.Hand

open Cert.RefIdeal Cert.RefIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ) (c : Dev nD)

/-- The call's arrays as it finds them. -/
def rFacs : Vec F S2 .f32 := V m c main_v46
def rX : Vec F S3x8192x3584 .fp8e4m3 := V m c main_arg0
def rGrad : Vec F S3x8192x3584 .bf16 := V m c main_arg2
def rDw : Vec F S3584x3584 .f32 := V m c main_arg3

abbrev rfac0 (x : Vec F S2 .f32) : Elt F .f32 := View.ld x (Rect.unit (s := S2) ![0] S1.size inb_S2_S1_0) (Shape.Idx.first (by decide))
abbrev rfac1 (x : Vec F S2 .f32) : Elt F .f32 := View.ld x (Rect.unit (s := S2) ![1] S1.size inb_S2_S1_1) (Shape.Idx.first (by decide))

theorem ridx0 : ∀ t : Fin cfg0.N, win0_0.index t = ![0] :=
  (by decide +kernel : ∀ t : Fin grid0.N, win0_0.index t = ![0])
theorem ridx1 : ∀ t : Fin cfg0.N, win0_1.index t = ![0, 0, 0] :=
  (by decide +kernel : ∀ t : Fin grid0.N, win0_1.index t = ![0, 0, 0])
theorem ridx2 : ∀ t : Fin cfg0.N, win0_2.index t = ![0, 0, 0] :=
  (by decide +kernel : ∀ t : Fin grid0.N, win0_2.index t = ![0, 0, 0])
theorem ridx3 : ∀ t : Fin cfg0.N, win0_3.index t = ![0, 0] :=
  (by decide +kernel : ∀ t : Fin grid0.N, win0_3.index t = ![0, 0])
theorem ridx4 : ∀ t : Fin cfg0.N, win0_4.index t = ![0, 0] :=
  (by decide +kernel : ∀ t : Fin grid0.N, win0_4.index t = ![0, 0])
theorem ridx5 : ∀ t : Fin cfg0.N, win0_5.index t = ![0, 0, 0] :=
  (by decide +kernel : ∀ t : Fin grid0.N, win0_5.index t = ![0, 0, 0])

theorem rblk0 (t : Fin cfg0.N) : (iblk m c 0 t : Vec F S2 .f32) = rFacs m c := by
  funext y
  unfold rFacs
  blk_simp [iblk]
  congr 1
  blk_ext [ridx0]
theorem rblk1 (t : Fin cfg0.N) : (iblk m c 1 t : Vec F S3x8192x3584 .fp8e4m3) = rX m c := by
  funext y
  unfold rX
  blk_simp [iblk]
  congr 1
  blk_ext [ridx1]
theorem rblk2 (t : Fin cfg0.N) : (iblk m c 2 t : Vec F S3x8192x3584 .bf16) = rGrad m c := by
  funext y
  unfold rGrad
  blk_simp [iblk]
  congr 1
  blk_ext [ridx2]
theorem rblk3 (t : Fin cfg0.N) : (iblk m c 3 t : Vec F S3584x3584 .f32) = rDw m c := by
  funext y
  unfold rDw
  blk_simp [iblk]
  congr 1
  blk_ext [ridx3]

theorem zero3 : (![0, 0, 0] : Fin 3 → Nat) = fun _ => 0 := by decide
theorem zero2 : (![0, 0] : Fin 2 → Nat) = fun _ => 0 := by decide

theorem out5 (t : Fin cfg0.N) : (outsAt0 m c t).2 = k0_pay1 (rGrad m c) (rfac0 (rFacs m c)) := by
  rw [← rblk0 m c t, ← rblk2 m c t]
  unfold outsAt0 out0_A_5
  rw [View.read_writes_eq_canon _ _ _ (cover0_A_5 c _ _ _ _ _ _ _ _ _ _ _ _ _ _ _ _)]
  unfold kernelRun0_A
  dsimp only
  sl_unfold_words
  simp only [View.readAt_eq_ld, (hs0_0 t).read_unread, (hs0_2 t).read_unread]
  refine (View.canon_unit_zero (S := S3x8192x3584) zero3 _ _).trans ?_
  exact congrArg (fun z => k0_pay1 z _) (View.ld_unit_zero (S := S3x8192x3584) zero3 _ _)

theorem out4 (t : Fin cfg0.N) : (outsAt0 m c t).1 = k0_pay2 (rGrad m c) (rfac0 (rFacs m c)) (rX m c) (rDw m c) (rfac1 (rFacs m c)) := by
  rw [← rblk0 m c t, ← rblk1 m c t, ← rblk2 m c t, ← rblk3 m c t]
  unfold outsAt0 out0_A_4
  rw [View.read_writes_eq_canon _ _ _ (cover0_A_4 c _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine (View.canon_unit_zero (S := S3584x3584) zero2 _ _).trans ?_
  refine (congrArg (fun z => k0_pay2 z _ _ _ _) (View.ld_unit_zero (S := S3x8192x3584) zero3 _ _)).trans ?_
  refine (congrArg (fun z => k0_pay2 _ _ z _ _) (View.ld_unit_zero (S := S3x8192x3584) zero3 _ _)).trans ?_
  exact congrArg (fun z => k0_pay2 _ _ _ z _) (View.ld_unit_zero (S := S3584x3584) zero2 _ _)

theorem rfinal5 : (dats m 0 c).arrAt 5 cfg0.N = k0_pay1 (rGrad m c) (rfac0 (rFacs m c)) := by
  refine (dats m 0 c).arrAt_eq_of_covers 5 _ (by decide +kernel) fun t hf y => ?_
  blk_simp
  rw [after0_5, out5]
  congr 1
  blk_ext [ridx5]

theorem rfinal4 : (dats m 0 c).arrAt 4 cfg0.N = k0_pay2 (rGrad m c) (rfac0 (rFacs m c)) (rX m c) (rDw m c) (rfac1 (rFacs m c)) := by
  refine (dats m 0 c).arrAt_eq_of_covers 4 _ (by decide +kernel) fun t hf y => ?_
  blk_simp
  rw [after0_4, out4]
  congr 1
  blk_ext [ridx4]

end Cert.RefIdeal.Hand

end
-- ==== Proof.ValueEq.lean ====
module

public import proofs.«01_k».proof.Proof.RefValue

/-! # Both programs leave the same three results

The new weight gradient, the codes and the scale, each one function of the four arguments; then each program's run with its results named by
these functions. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

section Typed

variable {F : FTy → Type} [FloatOps F]

/-- The codes of a gradient at one factor. -/
def codesFn (f : Elt F .f32) (g : Vec F S3x8192x3584 .bf16) : Vec F S3x8192x3584 .fp8e5m2 := fun i => codeAt f (g i)

variable (m : (ℓ : Loc nD τ sig) → Buf (Elt F) ℓ) (c : Dev nD)

/-- The other three arguments, as the arrays of numbers they are. -/
def argX : Vec F S3x8192x3584 .fp8e4m3 := m ((c : Thread nD τ).loc main_arg0)
def argS : Vec F S_ .f32 := m ((c : Thread nD τ).loc main_arg1)
def argD : Vec F S3584x3584 .f32 := m ((c : Thread nD τ).loc main_arg3)

theorem V1_v0 : V1 m c (Proc.devRef .tc main_v0) = shapeCast S24576x3584 (argX m c) shapeCasts_S3x8192x3584_S24576x3584 := by
  after_results
  rfl

theorem xFlat_eq : xFlat (V11 m (outs m)) c = shapeCast S24576x3584 (argX m c) shapeCasts_S3x8192x3584_S24576x3584 :=
  (V11_v0 m (outs m) c).trans (V1_v0 m c)
theorem gradFlat_eq : gradFlat (V11 m (outs m)) c = shapeCast S24576x3584 (gradA m c) shapeCasts_S3x8192x3584_S24576x3584 :=
  (V11_v1 m (outs m) c).trans (V1_v1 m c)
theorem facs_eq : facs (V11 m (outs m)) c = factorsOf (headA m (outs m) c) (argS m c) := V11_v48 m (outs m) c
theorem dwOld_eq : dwOld (V11 m (outs m)) c = argD m c := V11_arg3 m (outs m) c

theorem codesFlat_eq : codesFlat (V11 m (outs m)) c
    = shapeCast S24576x3584 (codesFn (fac0 (factorsOf (headA m (outs m) c) (argS m c))) (gradA m c)) shapeCasts_S3x8192x3584_S24576x3584 := by
  unfold codesFlat
  rw [facs_eq, gradFlat_eq]
  rfl

/-- The codes as the program returns them. -/
theorem V13_v50 : V13 m (outs m) c (Proc.devRef .tc main_v50) = codesFn (fac0 (factorsOf (headA m (outs m) c) (argS m c))) (gradA m c) := by
  have e : V13 m (outs m) c (Proc.devRef .tc main_v50)
      = shapeCast S3x8192x3584 (V12 m (outs m) c (Proc.devRef .tc main_v49_1) : Vec F S24576x3584 .fp8e5m2) shapeCasts_S24576x3584_S3x8192x3584 := by
    show StableHlo.after hostOps2 (V12 m (outs m) c) (Proc.devRef .tc main_v50) = _
    after_results
    rfl
  have e4 : V12 m (outs m) c (Proc.devRef .tc main_v49_1) = codesFlat (V11 m (outs m)) c :=
    (after1_V12 m c 4).symm.trans (final4 (V11 m (outs m)) c)
  rw [e, e4, codesFlat_eq]
  funext i
  show codesFn _ _ (Shape.reshapeEquiv _ (Shape.reshapeEquiv _ i)) = _
  rw [Shape.reshapeEquiv_reshapeEquiv, Shape.reshapeEquiv_self]

end Typed

variable (m : (ℓ : Loc nD τ sig) → Buf (Elt Ideal) ℓ) (c : Dev nD)

/-- The new weight gradient as one function of the factors and the arrays. -/
def resDw (f : Vec Ideal S2 .f32) (x : Vec Ideal S3x8192x3584 .fp8e4m3) (g : Vec Ideal S3x8192x3584 .bf16) (d : Vec Ideal S3584x3584 .f32) : Vec Ideal S3584x3584 .f32 :=
  dwNew (shapeCast S24576x3584 x shapeCasts_S3x8192x3584_S24576x3584)
    (shapeCast S24576x3584 (codesFn (fac0 f) g) shapeCasts_S3x8192x3584_S24576x3584) d (fac1 f)

/-- The factors as one function of the gradient and the first factor's scale. -/
def resFac (g : Vec Ideal S3x8192x3584 .bf16) (s : Vec Ideal S_ .f32) : Vec Ideal S2 .f32 := factorsOf (F := Ideal) (Cert.RefIdeal.Hand.topOf g) s

theorem V13_v49_0 : V13 m (outs m) c (Proc.devRef .tc main_v49_0) = resDw (resFac (gradA m c) (argS m c)) (argX m c) (gradA m c) (argD m c) := by
  have e3 : V13 m (outs m) c (Proc.devRef .tc main_v49_0) = dwNew (xFlat (V11 m (outs m)) c) (codesFlat (V11 m (outs m)) c) (dwOld (V11 m (outs m)) c) (fac1 (facs (V11 m (outs m)) c)) :=
    (V13_of m (outs m) c main_v49_0 (by decide)).trans ((after1_V12 m c 3).symm.trans (final3 (V11 m (outs m)) c))
  rw [e3, xFlat_eq, codesFlat_eq, dwOld_eq, facs_eq, Cert.RefIdeal.Hand.amax_eq]
  rfl

/-- **The kernel program's run, with its three results named.** -/
theorem run_values (ρ : Dev nD → PrngReg) :
    θ_run defs (onTc (τ := τ) (main (F := Ideal))) ⟨m, fun _ => 0, ρ⟩ (fun r => ∀ c : Dev nD,
      r.2.mem ((c.tc : Thread nD τ).loc main_v49_0) = resDw (resFac (gradA m c) (argS m c)) (argX m c) (gradA m c) (argD m c)
      ∧ r.2.mem ((c.tc : Thread nD τ).loc main_v50) = codesFn (fac0 (resFac (gradA m c) (argS m c))) (gradA m c)
      ∧ r.2.mem ((c.tc : Thread nD τ).loc main_v35) = pow2Of (F := Ideal) (expOf (Cert.RefIdeal.Hand.topOf (gradA m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  have g (b : Ref sig .tc) (hb : Proc.devRef .tc b ∈ Pipeline.ucRefs τ sig) := h.1 c (Proc.devRef .tc b) hb
  refine ⟨(g main_v49_0 (Finset.mem_filter.mpr ⟨StableHlo.devRef_mem_tcRefs _, by decide⟩)).trans (V13_v49_0 m c),
    (g main_v50 (Finset.mem_filter.mpr ⟨StableHlo.devRef_mem_tcRefs _, by decide⟩)).trans ?_,
    (g main_v35 (Finset.mem_filter.mpr ⟨StableHlo.devRef_mem_tcRefs _, by decide⟩)).trans ?_,
    (g main_arg0 (Finset.mem_filter.mpr ⟨StableHlo.devRef_mem_tcRefs _, by decide⟩)).trans (V13_main_arg0 m (outs m) c),
    (g main_arg1 (Finset.mem_filter.mpr ⟨StableHlo.devRef_mem_tcRefs _, by decide⟩)).trans (V13_main_arg1 m (outs m) c),
    (g main_arg2 (Finset.mem_filter.mpr ⟨StableHlo.devRef_mem_tcRefs _, by decide⟩)).trans (V13_main_arg2 m (outs m) c),
    (g main_arg3 (Finset.mem_filter.mpr ⟨StableHlo.devRef_mem_tcRefs _, by decide⟩)).trans (V13_main_arg3 m (outs m) c)⟩
  · rw [V13_v50, Cert.RefIdeal.Hand.amax_eq]; rfl
  · rw [V13_v35, Cert.RefIdeal.Hand.amax_eq]

end Cert.KernelIdeal.Hand

namespace Cert.RefIdeal.Hand

open Cert.RefIdeal Cert.RefIdeal.Gen
open Idealize.ShloMosaic Idealize.ShloMosaic.TcCoe Idealize.ShloMosaic.ValueIdx
open Idealize.SL Idealize.SL.Sem
open Cert.KernelIdeal.Hand (codeAt codesFn resDw resFac pow2Of expOf factorsOf rowProd dwNew zero_f32)
open scoped BigOperators

section Typed

variable {F : FTy → Type} [FloatOps F]

theorem rpay1_eq (g : Vec F S3x8192x3584 .bf16) (f : Elt F .f32) : k0_pay1 g f = codesFn f g := rfl

theorem rpay2_at (g : Vec F S3x8192x3584 .bf16) (f : Elt F .f32) (x : Vec F S3x8192x3584 .fp8e4m3) (d : Vec F S3584x3584 .f32) (f1 : Elt F .f32) (i) :
    k0_pay2 g f x d f1 i = FloatOps.addf (d i) (FloatOps.mulf
      (FloatOps.matmul dot_S24576x3584_S24576x3584_S3584x3584_0_0_1_1_n_n none (shapeCast S24576x3584 x shapeCasts_S3x8192x3584_S24576x3584)
        (shapeCast S24576x3584 (codesFn f g) shapeCasts_S3x8192x3584_S24576x3584) (constant S3584x3584 .f32 0x00000000#32) i) f1) := rfl

variable (m : (ℓ : Loc nD τ sig) → Buf (Elt F) ℓ) (c : Dev nD)

/-- The arguments, as the arrays of numbers they are. -/
def argX : Vec F S3x8192x3584 .fp8e4m3 := m ((c : Thread nD τ).loc main_arg0)
def argS : Vec F S_ .f32 := m ((c : Thread nD τ).loc main_arg1)
def argG : Vec F S3x8192x3584 .bf16 := m ((c : Thread nD τ).loc main_arg2)
def argD : Vec F S3584x3584 .f32 := m ((c : Thread nD τ).loc main_arg3)

theorem rX_eq : rX m c = argX m c := V_main_arg0 m c
theorem rGrad_eq : rGrad m c = argG m c := V_main_arg2 m c
theorem rDw_eq : rDw m c = argD m c := V_main_arg3 m c
theorem rFacs_eq : rFacs m c = factorsOf (topOf (argG m c)) (argS m c) := (V_eq m c main_v46).trans (W9_v46 _)
theorem rScale_eq : V m c main_v33 = pow2Of (F := F) (expOf (topOf (argG m c))) := (V_eq m c main_v33).trans (W9_v33 _)

end Typed

/-- The whole product, entry by entry. -/
theorem dot_big (prec : Option ContractPrecision) (x : FVec Ideal S24576x3584 .fp8e4m3) (y : FVec Ideal S24576x3584 .fp8e5m2) (z : FVec Ideal S3584x3584 .f32) (a b : Fin 3584) :
    FloatOps.matmul dot_S24576x3584_S24576x3584_S3584x3584_0_0_1_1_n_n prec x y z (ix2 a b)
      = z (ix2 a b) + ∑ r : Fin 24576, x (ix2 r a) * y (ix2 r b) := by
  have hr : dot_S24576x3584_S24576x3584_S3584x3584_0_0_1_1_n_n.contr.rank = 1 := rfl
  have hs : dot_S24576x3584_S24576x3584_S3584x3584_0_0_1_1_n_n.contr.size ⟨0, by rw [hr]; exact Nat.one_pos⟩ = 24576 := rfl
  rw [Ideal.matmul_apply, ← Equiv.sum_comp (contrEquiv1 dot_S24576x3584_S24576x3584_S3584x3584_0_0_1_1_n_n 24576 hr hs).symm]
  refine congrArg (z (ix2 a b) + ·) (Finset.sum_congr rfl fun k _ => ?_)
  have hk := contrEquiv1_symm_val dot_S24576x3584_S24576x3584_S3584x3584_0_0_1_1_n_n 24576 hr hs k
  have el : dot_S24576x3584_S24576x3584_S3584x3584_0_0_1_1_n_n.lhsIdx (ix2 a b) ((contrEquiv1 dot_S24576x3584_S24576x3584_S3584x3584_0_0_1_1_n_n 24576 hr hs).symm k) = ix2 k a := by
    funext d; apply Fin.ext
    match d with
    | ⟨0, _⟩ => exact hk
    | ⟨1, _⟩ => rfl
  have er : dot_S24576x3584_S24576x3584_S3584x3584_0_0_1_1_n_n.rhsIdx (ix2 a b) ((contrEquiv1 dot_S24576x3584_S24576x3584_S3584x3584_0_0_1_1_n_n 24576 hr hs).symm k) = ix2 k b := by
    funext d; apply Fin.ext
    match d with
    | ⟨0, _⟩ => exact hk
    | ⟨1, _⟩ => rfl
  rw [el, er]

/-- The product as the sum of the rows' products. -/
theorem dot_rows (x : FVec Ideal S24576x3584 .fp8e4m3) (y : FVec Ideal S24576x3584 .fp8e5m2) (a b : Fin 3584) :
    (FloatOps.matmul dot_S24576x3584_S24576x3584_S3584x3584_0_0_1_1_n_n none x y (constant S3584x3584 .f32 0x00000000#32) (ix2 a b) : EReal)
      = ∑ r ∈ Finset.range 24576, rowProd x y a b r := by
  rw [dot_big]
  have hz : (constant S3584x3584 .f32 0x00000000#32 : FVec Ideal S3584x3584 .f32) (ix2 a b) = (0 : EReal) := zero_f32
  rw [hz, zero_add, Finset.sum_range]
  refine Finset.sum_congr rfl fun r _ => ?_
  unfold rowProd
  rw [dif_pos r.isLt]

theorem rpay2_eq (f : Vec Ideal S2 .f32) (x : Vec Ideal S3x8192x3584 .fp8e4m3) (g : Vec Ideal S3x8192x3584 .bf16) (d : Vec Ideal S3584x3584 .f32) :
    k0_pay2 g (rfac0 f) x d (rfac1 f) = resDw f x g d := by
  funext i
  have hd := dot_rows (shapeCast S24576x3584 x shapeCasts_S3x8192x3584_S24576x3584)
    (shapeCast S24576x3584 (codesFn (F := Ideal) (rfac0 f) g) shapeCasts_S3x8192x3584_S24576x3584) (i 0) (i 1)
  have hi : (ix2 (i 0) (i 1) : S3584x3584.Idx) = i := (eq_ix2 i).symm
  rw [hi] at hd
  exact (rpay2_at g (rfac0 f) x d (rfac1 f) i).trans
    (congrArg (fun t => FloatOps.addf (F := Ideal) (φ := .f32) (d i) (FloatOps.mulf t (rfac1 f))) hd)

variable (m : (ℓ : Loc nD τ sig) → Buf (Elt Ideal) ℓ) (c : Dev nD)

/-- **The reference's run, with its three results named.** -/
theorem run_values (ρ : Dev nD → PrngReg) :
    θ_run defs (onTc (τ := τ) (main (F := Ideal))) ⟨m, fun _ => 0, ρ⟩ (fun r => ∀ c : Dev nD,
      r.2.mem ((c.tc : Thread nD τ).loc main_v47_0) = resDw (resFac (argG m c) (argS m c)) (argX m c) (argG m c) (argD m c)
      ∧ r.2.mem ((c.tc : Thread nD τ).loc main_v47_1) = codesFn (rfac0 (resFac (argG m c) (argS m c))) (argG m c)
      ∧ r.2.mem ((c.tc : Thread nD τ).loc main_v33) = pow2Of (F := Ideal) (expOf (topOf (argG m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, Value.kept_main_arg0 m r h c, Value.kept_main_arg1 m r h c,
    Value.kept_main_arg2 m r h c, Value.kept_main_arg3 m r h c⟩) (run_main m ρ)
  · refine (Value.post4 m r h c).trans ((rfinal4 m c).trans ?_)
    rw [rFacs_eq, rX_eq, rGrad_eq, rDw_eq, rpay2_eq]
    rfl
  · refine (Value.post5 m r h c).trans ((rfinal5 m c).trans ?_)
    rw [rFacs_eq, rGrad_eq, rpay1_eq]
    rfl
  · exact ((h c).2 main_v33 (Pipeline.mem_restRefs_of main_v33 (by decide) (by decide))).trans (rScale_eq m c)

end Cert.RefIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.RefIdeal
public import proofs.«01_k».proof.Proof.Gen.RefIdeal.Skeleton
public import proofs.«01_k».proof.Proof.Gen.RefIdeal.Launch
public import proofs.«01_k».proof.Proof.Gen.RefIdeal.Points
public import proofs.«01_k».proof.Proof.Gen.RefIdeal.Frame
public import proofs.«01_k».proof.Proof.Gen.RefIdeal.Value
public import proofs.«01_k».proof.Proof.Launch
public import proofs.«01_k».proof.Proof.ValueEq
public import Idealize.ShloMosaic.Adequacy
public import Idealize.ShloMosaic.Init

@[expose] public section

noncomputable section

namespace Cert.Proof

open Idealize.ShloMosaic Idealize.SL.Sem Cert.Kernel

/-- The two ideal programs leave equal results. -/
theorem algebraic : Cert.algebraic_KernelIdeal_RefIdeal := by
  intro m ρ m' ρ' _ hargs
  refine ⟨_, _, _, Cert.KernelIdeal.Hand.run_values m ρ, (θ_run _ _ _).mono (fun r h c => ?_) (Cert.RefIdeal.Hand.run_values m' ρ')⟩
  obtain ⟨h0, h1, h2, h3⟩ := hargs c
  obtain ⟨r0, r1, r2, kept⟩ := h c
  have e0 : Cert.RefIdeal.Hand.argX m' c = Cert.KernelIdeal.Hand.argX m c := h0
  have e1 : Cert.RefIdeal.Hand.argS m' c = Cert.KernelIdeal.Hand.argS m c := h1
  have e2 : Cert.RefIdeal.Hand.argG m' c = Cert.KernelIdeal.Hand.gradA m c := h2
  have e3 : Cert.RefIdeal.Hand.argD m' c = Cert.KernelIdeal.Hand.argD m c := h3
  rw [e0, e1, e2, e3] at r0
  rw [e1, e2] at r1
  rw [e2] at r2
  exact ⟨r0, r1, r2, kept⟩

theorem claim : Cert.Claim := ⟨Cert.Kernel.Gen.facts, Cert.KernelIdeal.Gen.facts, Cert.RefIdeal.Gen.facts, fun m ρ _ => Cert.Kernel.Hand.frame_main m ρ, fun m ρ _ => Cert.KernelIdeal.Hand.frame_main m ρ,
  fun m ρ _ => Cert.RefIdeal.Gen.frame m ρ, trivial, algebraic⟩

end Cert.Proof

end
